-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2x512 : Shape := ⟨2, ![2, 512]⟩
abbrev S15x2x512 : Shape := ⟨3, ![15, 2, 512]⟩
abbrev S15 : Shape := ⟨1, ![15]⟩
abbrev S_ : Shape := ⟨0, ![]⟩
abbrev S512 : Shape := ⟨1, ![512]⟩
abbrev S1x512 : Shape := ⟨2, ![1, 512]⟩
abbrev S1 : Shape := ⟨1, ![1]⟩
abbrev S1x2x512 : Shape := ⟨3, ![1, 2, 512]⟩
abbrev S15x1x512 : Shape := ⟨3, ![15, 1, 512]⟩
abbrev S15x512 : Shape := ⟨2, ![15, 512]⟩
abbrev S16x512 : Shape := ⟨2, ![16, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S2x512, .f32⟩
  | .local _ .vmem, ⟨0, _⟩ => ⟨S512x512, .f32⟩
  | .local _ .vmem, ⟨1, _⟩ => ⟨S2x512, .f32⟩
  | .local _ .vmem, ⟨2, _⟩ => ⟨S2x512, .f32⟩
  | .local _ .vmem, ⟨3, _⟩ => ⟨S15x2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v83 : BitVec 32 := Scalar.addi v2 c1_i32_66
  let c16_i32_67 : BitVec 32 := 16#32
  let v84 : BitVec 32 := Scalar.remsi v83 c16_i32_67
  let c1_i32_71 : BitVec 32 := 1#32
  let v85 : BitVec 32 := Scalar.muli v84 c1_i32_71
  let v86 : BitVec 32 := Scalar.addi c0_i32_72 v85
  v86.toNat
def k0_dev17 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_75 : BitVec 32 := 2#32
  let v93 : BitVec 32 := Scalar.addi v2 c2_i32_75
  let c16_i32_76 : BitVec 32 := 16#32
  let v94 : BitVec 32 := Scalar.remsi v93 c16_i32_76
  let c1_i32_80 : BitVec 32 := 1#32
  let v95 : BitVec 32 := Scalar.muli v94 c1_i32_80
  let v96 : BitVec 32 := Scalar.addi c0_i32_81 v95
  v96.toNat
def k0_dev18 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_84 : BitVec 32 := 3#32
  let v103 : BitVec 32 := Scalar.addi v2 c3_i32_84
  let c16_i32_85 : BitVec 32 := 16#32
  let v104 : BitVec 32 := Scalar.remsi v103 c16_i32_85
  let c1_i32_89 : BitVec 32 := 1#32
  let v105 : BitVec 32 := Scalar.muli v104 c1_i32_89
  let v106 : BitVec 32 := Scalar.addi c0_i32_90 v105
  v106.toNat
def k0_dev19 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_93 : BitVec 32 := 4#32
  let v113 : BitVec 32 := Scalar.addi v2 c4_i32_93
  let c16_i32_94 : BitVec 32 := 16#32
  let v114 : BitVec 32 := Scalar.remsi v113 c16_i32_94
  let c1_i32_98 : BitVec 32 := 1#32
  let v115 : BitVec 32 := Scalar.muli v114 c1_i32_98
  let v116 : BitVec 32 := Scalar.addi c0_i32_99 v115
  v116.toNat
def k0_dev20 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_102 : BitVec 32 := 5#32
  let v123 : BitVec 32 := Scalar.addi v2 c5_i32_102
  let c16_i32_103 : BitVec 32 := 16#32
  let v124 : BitVec 32 := Scalar.remsi v123 c16_i32_103
  let c1_i32_107 : BitVec 32 := 1#32
  let v125 : BitVec 32 := Scalar.muli v124 c1_i32_107
  let v126 : BitVec 32 := Scalar.addi c0_i32_108 v125
  v126.toNat
def k0_dev21 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_111 : BitVec 32 := 6#32
  let v133 : BitVec 32 := Scalar.addi v2 c6_i32_111
  let c16_i32_112 : BitVec 32 := 16#32
  let v134 : BitVec 32 := Scalar.remsi v133 c16_i32_112
  let c1_i32_116 : BitVec 32 := 1#32
  let v135 : BitVec 32 := Scalar.muli v134 c1_i32_116
  let v136 : BitVec 32 := Scalar.addi c0_i32_117 v135
  v136.toNat
def k0_dev22 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_120 : BitVec 32 := 7#32
  let v143 : BitVec 32 := Scalar.addi v2 c7_i32_120
  let c16_i32_121 : BitVec 32 := 16#32
  let v144 : BitVec 32 := Scalar.remsi v143 c16_i32_121
  let c1_i32_125 : BitVec 32 := 1#32
  let v145 : BitVec 32 := Scalar.muli v144 c1_i32_125
  let v146 : BitVec 32 := Scalar.addi c0_i32_126 v145
  v146.toNat
def k0_dev23 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_129 : BitVec 32 := 8#32
  let v153 : BitVec 32 := Scalar.addi v2 c8_i32_129
  let c16_i32_130 : BitVec 32 := 16#32
  let v154 : BitVec 32 := Scalar.remsi v153 c16_i32_130
  let c1_i32_134 : BitVec 32 := 1#32
  let v155 : BitVec 32 := Scalar.muli v154 c1_i32_134
  let v156 : BitVec 32 := Scalar.addi c0_i32_135 v155
  v156.toNat
def k0_dev24 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_138 : BitVec 32 := 9#32
  let v163 : BitVec 32 := Scalar.addi v2 c9_i32_138
  let c16_i32_139 : BitVec 32 := 16#32
  let v164 : BitVec 32 := Scalar.remsi v163 c16_i32_139
  let c1_i32_143 : BitVec 32 := 1#32
  let v165 : BitVec 32 := Scalar.muli v164 c1_i32_143
  let v166 : BitVec 32 := Scalar.addi c0_i32_144 v165
  v166.toNat
def k0_dev25 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_147 : BitVec 32 := 10#32
  let v173 : BitVec 32 := Scalar.addi v2 c10_i32_147
  let c16_i32_148 : BitVec 32 := 16#32
  let v174 : BitVec 32 := Scalar.remsi v173 c16_i32_148
  let c1_i32_152 : BitVec 32 := 1#32
  let v175 : BitVec 32 := Scalar.muli v174 c1_i32_152
  let v176 : BitVec 32 := Scalar.addi c0_i32_153 v175
  v176.toNat
def k0_dev26 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_156 : BitVec 32 := 11#32
  let v183 : BitVec 32 := Scalar.addi v2 c11_i32_156
  let c16_i32_157 : BitVec 32 := 16#32
  let v184 : BitVec 32 := Scalar.remsi v183 c16_i32_157
  let c1_i32_161 : BitVec 32 := 1#32
  let v185 : BitVec 32 := Scalar.muli v184 c1_i32_161
  let v186 : BitVec 32 := Scalar.addi c0_i32_162 v185
  v186.toNat
def k0_dev27 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_165 : BitVec 32 := 12#32
  let v193 : BitVec 32 := Scalar.addi v2 c12_i32_165
  let c16_i32_166 : BitVec 32 := 16#32
  let v194 : BitVec 32 := Scalar.remsi v193 c16_i32_166
  let c1_i32_170 : BitVec 32 := 1#32
  let v195 : BitVec 32 := Scalar.muli v194 c1_i32_170
  let v196 : BitVec 32 := Scalar.addi c0_i32_171 v195
  v196.toNat
def k0_dev28 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_174 : BitVec 32 := 13#32
  let v203 : BitVec 32 := Scalar.addi v2 c13_i32_174
  let c16_i32_175 : BitVec 32 := 16#32
  let v204 : BitVec 32 := Scalar.remsi v203 c16_i32_175
  let c1_i32_179 : BitVec 32 := 1#32
  let v205 : BitVec 32 := Scalar.muli v204 c1_i32_179
  let v206 : BitVec 32 := Scalar.addi c0_i32_180 v205
  v206.toNat
def k0_dev29 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_183 : BitVec 32 := 14#32
  let v213 : BitVec 32 := Scalar.addi v2 c14_i32_183
  let c16_i32_184 : BitVec 32 := 16#32
  let v214 : BitVec 32 := Scalar.remsi v213 c16_i32_184
  let c1_i32_188 : BitVec 32 := 1#32
  let v215 : BitVec 32 := Scalar.muli v214 c1_i32_188
  let v216 : BitVec 32 := Scalar.addi c0_i32_189 v215
  v216.toNat
def k0_dev30 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_192 : BitVec 32 := 15#32
  let v223 : BitVec 32 := Scalar.addi v2 c15_i32_192
  let c16_i32_193 : BitVec 32 := 16#32
  let v224 : BitVec 32 := Scalar.remsi v223 c16_i32_193
  let c1_i32_197 : BitVec 32 := 1#32
  let v225 : BitVec 32 := Scalar.muli v224 c1_i32_197
  let v226 : BitVec 32 := Scalar.addi c0_i32_198 v225
  v226.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .i32⟩
  | .hbm, ⟨2, _⟩ => ⟨S_, .f32⟩
  | .hbm, ⟨3, _⟩ => ⟨S_, .i32⟩
  | .hbm, ⟨4, _⟩ => ⟨S512, .f32⟩
  | .hbm, ⟨5, _⟩ => ⟨S512, .i32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S2x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.KernelIdeal.Program.lean ====
/-
The kernel as five phases over the fifteen slots of the gather buffer: one barrier signal per slot, the barrier
wait, one transfer per slot, one pair of waits per slot, and the merge. `body_eq` says that the printed kernel is
this program; everything after it reasons about a generic slot.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdealProof

open Cert.KernelIdeal Cert.KernelIdeal.Gen
open Idealize.ShloMosaic Idealize.ShloMosaic.TcCoe Idealize.SL.Sem

variable {F : FTy → Type} [FloatOps F]

/-! ## The devices -/

set_option backward.proofsInPublic true in
/-- The device `s + 1` places further round: slot `s` of its gather buffer is the one device `c` fills. -/
def fwd (c : Dev nD) (s : Fin 15) : Dev nD := ⟨(c.val + (s.val + 1)) % 16, Nat.mod_lt _ (by decide)⟩
set_option backward.proofsInPublic true in
/-- The device `s + 1` places back: the one that fills slot `s` of device `c`'s gather buffer. -/
def bwd (c : Dev nD) (s : Fin 15) : Dev nD := ⟨(c.val + (15 - s.val)) % 16, Nat.mod_lt _ (by decide)⟩

theorem bwd_fwd : ∀ (c : Dev nD) (s : Fin 15), bwd (fwd c s) s = c := by decide +kernel
theorem fwd_bwd : ∀ (c : Dev nD) (s : Fin 15), fwd (bwd c s) s = c := by decide +kernel
/-- Going forward past slot `s` is going back past the slot counted from the other end. -/
theorem bwd_rev : ∀ (c : Dev nD) (s : Fin 15), bwd c s.rev = fwd c s := by decide +kernel

/-- Pairs of a device and a slot, turned by the slot. -/
def turn : Dev nD × Fin 15 ≃ Dev nD × Fin 15 where
  toFun p := (fwd p.1 p.2, p.2)
  invFun p := (bwd p.1 p.2, p.2)
  left_inv p := Prod.ext (bwd_fwd p.1 p.2) rfl
  right_inv p := Prod.ext (fwd_bwd p.1 p.2) rfl

/-- The devices the kernel signals, as it computes them; -/
def sigDev (c : Dev nD) : Fin 15 → Dev nD := ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
/-- the devices it sends to. -/
def sendDev (c : Dev nD) : Fin 15 → Dev nD := ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]

theorem sigDev_eq (c : Dev nD) (s : Fin 15) : sigDev c s = fwd c s := by
  fin_cases s <;> refine Fin.ext ?_
  exacts [k0_dev1_eq c, k0_dev2_eq c, k0_dev3_eq c, k0_dev4_eq c, k0_dev5_eq c, k0_dev6_eq c, k0_dev7_eq c, k0_dev8_eq c, k0_dev9_eq c, k0_dev10_eq c, k0_dev11_eq c, k0_dev12_eq c, k0_dev13_eq c, k0_dev14_eq c, k0_dev15_eq c]
theorem sendDev_eq (c : Dev nD) (s : Fin 15) : sendDev c s = fwd c s := by
  fin_cases s <;> refine Fin.ext ?_
  exacts [k0_dev16_eq c, k0_dev17_eq c, k0_dev18_eq c, k0_dev19_eq c, k0_dev20_eq c, k0_dev21_eq c, k0_dev22_eq c, k0_dev23_eq c, k0_dev24_eq c, k0_dev25_eq c, k0_dev26_eq c, k0_dev27_eq c, k0_dev28_eq c, k0_dev29_eq c, k0_dev30_eq c]

/-! ## The buffers and semaphores -/

/-- The device's block of the argument, the result, the two rows it sends, the gather buffer. -/
abbrev xM : Memref sig .tc .vmem S512x512 .f32 := Memref.whole cc0_stg0_0
abbrev oM : Memref sig .tc .vmem S2x512 .f32 := Memref.whole cc0_stg1_0
abbrev lM : Memref sig .tc .vmem S2x512 .f32 := Memref.whole cc0_scratch0
abbrev rM : Memref sig .tc .vmem S15x2x512 .f32 := Memref.whole cc0_scratch1

theorem slot_inb (s : Fin 15) : ∀ a, (![s.val, 0, 0] : Fin 3 → Nat) a + S1x2x512.size a ≤ S15x2x512.size a := by
  revert s; decide
theorem sem_inb (s : Fin 15) : ∀ a, (![s.val] : Fin 1 → Nat) a + S1.size a ≤ S15.size a := by
  revert s; decide

/-- Slot `s` of the gather buffer, as two rows. -/
abbrev slotM (s : Fin 15) : Memref sig .tc .vmem S2x512 .f32 :=
  (rM.slice (Rect.unit (s := S15x2x512) ![s.val, 0, 0] S1x2x512.size (slot_inb s)) (fun _ => rfl)).squeeze S2x512 squeezes_S1x2x512_S2x512
/-- The semaphores of slot `s`: the sender's and the receiver's. -/
def sendS (s : Fin 15) : DmaSem sig :=
  ((cc0_scratch2.slice (Rect.unit (s := S15) ![s.val] S1.size (sem_inb s))).squeeze S_ squeezes_S1_S_).sem
def recvS (s : Fin 15) : DmaSem sig :=
  ((cc0_scratch3.slice (Rect.unit (s := S15) ![s.val] S1.size (sem_inb s))).squeeze S_ squeezes_S1_S_).sem
/-- The barrier semaphore. -/
abbrev barS : Sem sig := (SemArray.scalar (sig.barrier 0 rfl) : Sems sig S_).sem

theorem sendS_val : ∀ s : Fin 15, (sendS s).val = 2 + s.val := by decide +kernel
theorem recvS_val : ∀ s : Fin 15, (recvS s).val = 17 + s.val := by decide +kernel

/-! ## The phases -/

/-- A kernel program on a device's TensorCore. -/
abbrev KProg (F : FTy → Type) [FloatOps F] : Type 1 := Prog (TpuEff nD τ sig (Elt F) Λ₀ .tc) PUnit

/-- The slots in the kernel's order. -/
abbrev slots : List (Fin 15) := [0, 1, 2, 3, 4, 5, 6, 7, 8, 9, 10, 11, 12, 13, 14]

/-- Signal the barrier of one device per slot of `l`, then `k`. -/
def sigs (c : Dev nD) (l : List (Fin 15)) (k : KProg F) : KProg F :=
  l.foldr (fun s p => .op (.semSignal (Dev.tc (sigDev c s)) barS (1#32 : BitVec 32).toInt) fun _ => p) k

/-- Send the two rows into one device's slot per slot of `l`, then `k`. -/
def sends (c : Dev nD) (l : List (Fin 15)) (k : KProg F) : KProg F :=
  l.foldr (fun s p => .op (.enqueueDma lM (.remote (Dev.tc (sendDev c s)) (slotM s) (.dma (sendS s))) (.dma (recvS s))
    (Memref.isWhole_whole _).wordExact ((View.wordExact_bits rfl).reshape _ _) ⟨⟨rfl, Or.inl rfl⟩, trivial⟩) fun _ => p) k

/-- Await per slot of `l` that the send left and that the slot was filled, then `k`. -/
def waits (l : List (Fin 15)) (k : KProg F) : KProg F :=
  l.foldr (fun s p =>
    .op (.waitDma2 (sendS s) (slotM s) lM ((View.wordExact_bits rfl).reshape _ _) (Memref.isWhole_whole _).wordExact) fun _ =>
    .op (.waitDma2 (recvS s) lM (slotM s) (Memref.isWhole_whole _).wordExact ((View.wordExact_bits rfl).reshape _ _)) fun _ => p) k

/-- The device's position on the mesh, as the kernel computes it. -/
abbrev pos (c : Dev nD) : BitVec 32 := Scalar.remsi (Scalar.divsi (Dev.word c) 1#32) 16#32

abbrev loadX (k : Vec F S512x512 .f32 → KProg F) : KProg F :=
  .op (.load xM (Rect.unit (s := S512x512) ![0, 0] S512x512.size inb_S512x512_S512x512_0_0).toLoadRect (View.loadsAt_vmem h_S512x512)) k
abbrev load2 (m : Memref sig .tc .vmem S2x512 .f32) (k : Vec F S2x512 .f32 → KProg F) : KProg F :=
  .op (.load m (Rect.unit (s := S2x512) ![0, 0] S2x512.size inb_S2x512_S2x512_0_0).toLoadRect (View.loadsAt_vmem h_S2x512)) k
abbrev store2 (m : Memref sig .tc .vmem S2x512 .f32) (v : FVec F S2x512 .f32) (k : KProg F) : KProg F :=
  .op (.store m (Rect.unit (s := S2x512) ![0, 0] S2x512.size inb_S2x512_S2x512_0_0) v Finset.univ (View.stores_vmem_bits_univ h_S2x512 rfl) (.inl rfl)) fun _ => k
abbrev loadG (k : Vec F S15x2x512 .f32 → KProg F) : KProg F :=
  .op (.load rM (Rect.unit (s := S15x2x512) ![0, 0, 0] S15x2x512.size inb_S15x2x512_S15x2x512_0_0_0).toLoadRect (View.loadsAt_vmem h_S15x2x512)) k

/-- The kernel on device `c`'s buffers, phase by phase. -/
def progAt (c : Dev nD) : KProg F :=
  sigs c slots <|
  loadX fun x =>
  load2 lM fun _ =>
  store2 lM (k0_pay5 (k0_pay4 (pos c) x)) <|
  .op (.semWait barS (15#32 : BitVec 32).toInt) fun _ =>
  sends c slots <|
  waits slots <|
  loadG fun g =>
  load2 oM fun _ =>
  store2 oM (k0_pay6 (k0_pay2 x) (k0_pay3 (pos c) x) g) <|
  .ret ⟨⟩

/-- The kernel: it reads which device it runs on first. -/
def prog : KProg F := .op .deviceId progAt

set_option maxRecDepth 65536 in
/-- The printed kernel is that program. -/
theorem body_eq : cc0_body (F := F) xM (Memref.isWhole_whole _) oM (Memref.isWhole_whole _) lM (Memref.isWhole_whole _) rM (Memref.isWhole_whole _)
    cc0_scratch2 cc0_scratch3 = prog := by
  rw [cc0_body_eq_skeleton]
  rfl

end Cert.KernelIdealProof

end
-- ==== Proof.KernelIdeal.Schedule.lean ====
/-
The protocol of the gather. Device `c` signals `fwd c j` for each `j`, handing it the slot of its own gather buffer that
`fwd c j` is to fill, waits for its own fifteen signals, sends its two rows into slot `s` of `fwd c s` for each `s`, and
waits for its own sends to leave and its own slots to be filled. This module states the buffers' contents, the cells, who
pays what into which cell and with which resources (`gather`), and in which order the cells may be awaited (`lv`).
-/
module

public import proofs.«01_k».proof.Proof.KernelIdeal.Program
public import Idealize.ShloMosaic.Lib.Pipeline.Launch
public import Idealize.ShloMosaic.Lib.Pipeline.Kit
public import Idealize.ShloMosaic.Lib.ReshapeSlab
public import Idealize.ShloMosaic.Lib.ValueLayout
public import Idealize.ShloMosaic.Lib.Ring
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-- The ghost state: the windows' protocol beside the gather's, whose duties are named by slots. -/
abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- Any memory, all semaphores at zero. -/
def s₀ : MemSt nD τ sig (Elt F) := ⟨m, fun _ => 0, ρ⟩

/-! ## Contents -/

/-- Device `c`'s block of the argument. -/
def xstg (c : Dev nD) : (cc0_stg0_0 : Ref sig .tc).ty.Contents (Elt F) :=
  (win0_0.blk (0 : Fin 1)).view.read (Elt F) ((s₀ m ρ).mem ((c : Thread nD τ).loc main_arg0))

/-- The two rows device `c` sends: its block's maxima and where they are first attained. -/
def msg (c : Dev nD) : (cc0_scratch0 : Ref sig .tc).ty.Contents (Elt F) := k0_pay5 (k0_pay4 (pos c) (xstg m ρ c))

/-- The filled gather buffer of device `c`: slot `s` holds the two rows of `bwd c s`. -/
def landed (c : Dev nD) : (cc0_scratch1 : Ref sig .tc).ty.Contents (Elt F) :=
  fun i => msg m ρ (bwd c (i 0)) (ix2 (i 1) (i 2))

/-- The result on device `c`. -/
def outAt (c : Dev nD) : (cc0_stg1_0 : Ref sig .tc).ty.Contents (Elt F) :=
  k0_pay6 (k0_pay2 (xstg m ρ c)) (k0_pay3 (pos c) (xstg m ρ c)) (landed m ρ c)

/-! ## A slot of the gather buffer -/

/-- The elements of slot `s`: a rectangle of the buffer, -/
def slotSet (s : Fin 15) : Finset S15x2x512.Idx := (slotM s).view.set

theorem slotSet_eq (s : Fin 15) : slotSet s = (Rect.unit (s := S15x2x512) ![s.val, 0, 0] S1x2x512.size (slot_inb s)).set :=
  (View.set_reshape _ _).trans (View.set_slice_whole cc0_scratch1 _)

/-- those whose first coordinate is `s`. -/
theorem mem_slot (s : Fin 15) (i : S15x2x512.Idx) : i ∈ slotSet s ↔ (i 0).val = s.val := by
  rw [slotSet_eq, Rect.mem_set_unit]
  constructor
  · intro h
    have h0 := h 0
    change s.val ≤ (i 0).val ∧ (i 0).val < s.val + 1 at h0
    omega
  · rintro h a
    fin_cases a
    · show s.val ≤ (i 0).val ∧ (i 0).val < s.val + 1
      omega
    · exact ⟨Nat.zero_le _, by show (i 1).val < 0 + 2; have : (i 1).val < 2 := (i 1).isLt; omega⟩
    · exact ⟨Nat.zero_le _, by show (i 2).val < 0 + 512; have : (i 2).val < 512 := (i 2).isLt; omega⟩

theorem slot_disjoint (s s' : Fin 15) (h : s ≠ s') : Disjoint (slotSet s) (slotSet s') :=
  Finset.disjoint_left.mpr fun i hi hi' => h (Fin.ext (((mem_slot s i).mp hi).symm.trans ((mem_slot s' i).mp hi')))

theorem slot_cover : (Finset.univ : Finset (Fin 15)).biUnion slotSet = Finset.univ := by
  ext i
  simp only [Finset.mem_biUnion, Finset.mem_univ, true_and, iff_true]
  exact ⟨i 0, (mem_slot (i 0) i).mpr rfl⟩

/-- Element `(a, b)` of slot `s` is element `(s, a, b)` of the buffer. -/
theorem slot_emb (s : Fin 15) (a : Fin 2) (b : Fin 512) : ((slotM s).view.emb (ix2 a b) : S15x2x512.Idx) = ix3 s a b := by
  have h : ((slotM s).view.emb (ix2 a b) : S15x2x512.Idx)
      = (Rect.unit (s := S15x2x512) ![s.val, 0, 0] S1x2x512.size (slot_inb s)).emb
        (Shape.reshapeEquiv (s := S1x2x512) (s' := S2x512) (by decide) (ix2 a b)) := rfl
  rw [h, ValueIdx.reshapeEquiv_ix2_1ab]
  funext x
  fin_cases x <;> refine Fin.ext ?_
  · show s.val + 1 * 0 = s.val; omega
  · show 0 + 1 * a.val = a.val; omega
  · show 0 + 1 * b.val = b.val; omega

/-- Writing the two rows of `bwd c s` into slot `s` of device `c` leaves the slot as in the filled buffer. -/
theorem slot_written (c : Dev nD) (s : Fin 15) (fd : (cc0_scratch1 : Ref sig .tc).ty.Contents (Elt F)) :
    ∀ i ∈ slotSet s, (slotM s).view.write (Elt F) fd (lM.view.read (Elt F) (msg m ρ (bwd c s))) Finset.univ i
      = landed m ρ c i := by
  intro i hi
  obtain ⟨j, -, rfl⟩ := Finset.mem_map.mp hi
  rw [View.write_emb_of_mem (h := Finset.mem_univ _)]
  obtain ⟨a, b, rfl⟩ : ∃ (a : Fin 2) (b : Fin 512), j = ix2 a b := ⟨j 0, j 1, by funext x; fin_cases x <;> rfl⟩
  show _ = landed m ρ c ((slotM s).view.emb (ix2 a b))
  rw [slot_emb]
  rfl

/-- Device `c`'s slot `s` at contents `f`; its two rows, at the share its transfer into slot `s` takes. -/
def slotPts (c : Dev nD) (s : Fin 15) (f : (cc0_scratch1 : Ref sig .tc).ty.Contents (Elt F)) : sProp 𝕄 :=
  (slotM s).view.loc (c : Thread nD τ) ↦[(slotM s).view.set]{fullShare} f
def srcPts (c : Dev nD) (s : Fin 15) : sProp 𝕄 :=
  lM.view.loc (c : Thread nD τ) ↦[lM.view.set]{Transfers.shareTok fullShare 15 s} msg m ρ c

instance slotPts_storable (c : Dev nD) (s : Fin 15) (f) : BI.Storable (upEmb : UEmb _ 𝕄) (slotPts (F := F) c s f) := by unfold slotPts; infer_instance
instance srcPts_storable (c : Dev nD) (s : Fin 15) : BI.Storable (upEmb : UEmb _ 𝕄) (srcPts (F := F) m ρ c s) := by unfold srcPts; infer_instance

/-! ## The cells -/

abbrev barCell (c : Dev nD) : GSem nD τ sig := ((c : Thread nD τ), .reg barS)
abbrev sendCell (c : Dev nD) (s : Fin 15) : GSem nD τ sig := ((c : Thread nD τ), .dma (sendS s))
abbrev recvCell (c : Dev nD) (s : Fin 15) : GSem nD τ sig := ((c : Thread nD τ), .dma (recvS s))

/-- A slot's credit. -/
abbrev N : ℕ := lM.view.dmaCredit
theorem N_pos : 0 < N := View.dmaCredit_pos _ (by decide)
theorem slot_credit (s : Fin 15) : (slotM s).view.dmaCredit = N := rfl

theorem sendS_inj : Function.Injective sendS := fun s s' h => Fin.ext (by
  have := congrArg Fin.val h; rw [sendS_val, sendS_val] at this; omega)
theorem recvS_inj : Function.Injective recvS := fun s s' h => Fin.ext (by
  have := congrArg Fin.val h; rw [recvS_val, recvS_val] at this; omega)
theorem send_ne_recv (s s' : Fin 15) : sendS s ≠ recvS s' := fun h => by
  have := congrArg Fin.val h; rw [sendS_val, recvS_val] at this; omega

/-- What the `j`-th signal to device `c` hands over: the slot, on the device that sent it, that `c` is to fill. -/
def barPay (c : Dev nD) (j : Fin 15) : sProp 𝕄 := iprop(∃ f, slotPts (fwd c j.rev) j.rev f)

instance barPay_storable (c : Dev nD) (j : Fin 15) : BI.Storable (upEmb : UEmb _ 𝕄) (barPay (F := F) c j) := by unfold barPay; infer_instance

/-- Which device a signal's slot is on: the sender. -/
theorem fwd_fwd_rev : ∀ (c : Dev nD) (j : Fin 15), fwd (fwd c j) j.rev = c := by decide +kernel

/-- One round. A barrier cell has one duty of one unit per signal it gets; a send or receive cell one duty of a slot's
    credit: the sent rows come back with the first, the filled slot with the second. -/
def gather : Rounds.Schedule (GSem nD τ sig) (Fin 15) 𝕄 where
  duties g r := if r = 0 ∧ g.1.2 = .tc then (match g.2 with | .reg _ => Finset.univ | .dma q => if 2 ≤ q.val then {0} else ∅) else ∅
  unitless _ := False
  amount g _ _ := match g.2 with | .reg _ => 1 | .dma _ => N
  payload g _ d := match g.2 with
    | .reg _ => barPay g.1.1 d
    | .dma q => if 17 ≤ q.val then slotPts g.1.1 (Fin.ofNat 15 (q.val - 17)) (landed m ρ g.1.1) else srcPts m ρ g.1.1 (Fin.ofNat 15 (q.val - 2))
  amount_pos g _ _ _ := by
    rcases g with ⟨t, q | q⟩
    · exact Nat.one_pos
    · exact N_pos

instance gather_payload_storable (g : GSem nD τ sig) (r : ℕ) (d : Fin 15) :
    BI.Storable (upEmb : UEmb _ 𝕄) ((gather (F := F) m ρ).payload g r d) := by
  rcases g with ⟨t, q | q⟩
  · exact barPay_storable t.1 d
  · show BI.Storable upEmb (if 17 ≤ q.val then slotPts t.1 (Fin.ofNat 15 (q.val - 17)) (landed m ρ t.1) else srcPts m ρ t.1 (Fin.ofNat 15 (q.val - 2)))
    split <;> infer_instance

section Sched
variable (c : Dev nD) (s : Fin 15)

theorem duties_bar : (gather (F := F) m ρ).duties (barCell c) 0 = Finset.univ := by
  dsimp only [gather]; exact if_pos ⟨rfl, rfl⟩
theorem duties_send : (gather (F := F) m ρ).duties (sendCell c s) 0 = {0} := by
  dsimp only [gather]; rw [if_pos ⟨rfl, rfl⟩]; exact if_pos (by rw [sendS_val]; omega)
theorem duties_recv : (gather (F := F) m ρ).duties (recvCell c s) 0 = {0} := by
  dsimp only [gather]; rw [if_pos ⟨rfl, rfl⟩]; exact if_pos (by rw [recvS_val]; omega)
theorem duties_later (g : GSem nD τ sig) : ∀ r, 1 ≤ r → (gather (F := F) m ρ).duties g r = ∅ :=
  fun r hr => if_neg fun h => by omega

theorem expect_bar : (gather (F := F) m ρ).expect (barCell c) 0 = 15 := by
  unfold Schedule.expect Schedule.amountOf
  rw [duties_bar]
  exact (Finset.sum_const 1).trans (by decide)
theorem expect_send : (gather (F := F) m ρ).expect (sendCell c s) 0 = N := by
  unfold Schedule.expect Schedule.amountOf; rw [duties_send, Finset.sum_singleton]; rfl
theorem expect_recv : (gather (F := F) m ρ).expect (recvCell c s) 0 = N := by
  unfold Schedule.expect Schedule.amountOf; rw [duties_recv, Finset.sum_singleton]; rfl

theorem payload_send (d : Fin 15) : (gather (F := F) m ρ).payload (sendCell c s) 0 d = srcPts m ρ c s := by
  show (if 17 ≤ (sendS s).val then _ else srcPts m ρ c (Fin.ofNat 15 ((sendS s).val - 2))) = _
  rw [if_neg (by rw [sendS_val]; omega)]
  congr 1
  exact Fin.ext (by show ((sendS s).val - 2) % 15 = s.val; rw [sendS_val]; omega)
theorem payload_recv (d : Fin 15) : (gather (F := F) m ρ).payload (recvCell c s) 0 d = slotPts c s (landed m ρ c) := by
  show (if 17 ≤ (recvS s).val then slotPts c (Fin.ofNat 15 ((recvS s).val - 17)) _ else _) = _
  rw [if_pos (by rw [recvS_val]; omega)]
  congr 1
  exact Fin.ext (by show ((recvS s).val - 17) % 15 = s.val; rw [recvS_val]; omega)

/-- What the barrier wait obtains: for each slot, that slot of the device it is sent to. -/
theorem rest_bar : bigSep ((gather (F := F) m ρ).duties (barCell c) 0 \ ∅) (fun d => (gather (F := F) m ρ).payload (barCell c) 0 d)
    = bigSep Finset.univ fun s : Fin 15 => iprop(∃ f, slotPts (F := F) (fwd c s) s f) := by
  rw [Finset.sdiff_empty, duties_bar, bigSep_univ_equiv Fin.revPerm (fun s : Fin 15 => iprop(∃ f, slotPts (F := F) (fwd c s) s f))]
  rfl
theorem rest_send : bigSep ((gather (F := F) m ρ).duties (sendCell c s) 0 \ ∅) (fun d => (gather (F := F) m ρ).payload (sendCell c s) 0 d) = srcPts m ρ c s := by
  rw [Finset.sdiff_empty, duties_send, bigSep_singleton, payload_send]
theorem rest_recv : bigSep ((gather (F := F) m ρ).duties (recvCell c s) 0 \ ∅) (fun d => (gather (F := F) m ρ).payload (recvCell c s) 0 d)
    = slotPts c s (landed m ρ c) := by
  rw [Finset.sdiff_empty, duties_recv, bigSep_singleton, payload_recv]

end Sched

/-! ## What a device owes -/

/-- What device `c` still owes before the transfers into the slots of `l`; -/
def owedR (c : Dev nD) (l : List (Fin 15)) : CellTallies nD τ sig Unit := (l.map fun s => tallyAt (recvCell (fwd c s) s) () N).sum
/-- before the signals of `l`. -/
def owedB (c : Dev nD) (l : List (Fin 15)) : CellTallies nD τ sig Unit := (l.map fun s => tallyAt (barCell (fwd c s)) () 1).sum
/-- At launch: every slot's credit and every signal's unit. -/
def O₀ (c : Dev nD) : CellTallies nD τ sig Unit := owedR c slots + owedB c slots

theorem owedR_cons (c : Dev nD) (s : Fin 15) (l : List (Fin 15)) : owedR c (s :: l) = owedR c l + tallyAt (recvCell (fwd c s) s) () N := by
  unfold owedR; rw [List.map_cons, List.sum_cons, add_comm]
theorem owedB_cons (c : Dev nD) (s : Fin 15) (l : List (Fin 15)) : owedB c (s :: l) = owedB c l + tallyAt (barCell (fwd c s)) () 1 := by
  unfold owedB; rw [List.map_cons, List.sum_cons, add_comm]

/-- Only receive cells are owed to by `owedR`; -/
theorem owedR_pos {c : Dev nD} {l : List (Fin 15)} {g : GSem nD τ sig} {u : Unit} (h : 0 < owedR c l g u) : ∃ d s, g = recvCell d s := by
  induction l with
  | nil => exact absurd h (Nat.lt_irrefl 0)
  | cons s l ih =>
    rw [owedR_cons, Pi.add_apply, Finsupp.add_apply, tallyAt_apply] at h
    by_cases hg : g = recvCell (fwd c s) s ∧ u = ()
    · exact ⟨_, _, hg.1⟩
    · rw [if_neg hg] at h; exact ih h
/-- only barrier cells by `owedB`. -/
theorem owedB_pos {c : Dev nD} {l : List (Fin 15)} {g : GSem nD τ sig} {u : Unit} (h : 0 < owedB c l g u) : ∃ d, g = barCell d := by
  induction l with
  | nil => exact absurd h (Nat.lt_irrefl 0)
  | cons s l ih =>
    rw [owedB_cons, Pi.add_apply, Finsupp.add_apply, tallyAt_apply] at h
    by_cases hg : g = barCell (fwd c s) ∧ u = ()
    · exact ⟨_, hg.1⟩
    · rw [if_neg hg] at h; exact ih h
theorem O₀_pos {c : Dev nD} {g : GSem nD τ sig} {u : Unit} (h : 0 < O₀ c g u) : (∃ d s, g = recvCell d s) ∨ ∃ d, g = barCell d := by
  unfold O₀ at h
  rw [Pi.add_apply, Finsupp.add_apply] at h
  rcases Nat.eq_zero_or_pos (owedR c slots g u) with h0 | h0
  · rw [h0, Nat.zero_add] at h; exact Or.inr (owedB_pos h)
  · exact Or.inl (owedR_pos h0)

/-- The levels: barrier cells below receive cells, every other cell below both. -/
def L (g : GSem nD τ sig) : Finset Unit := if g.1.2 = .tc then {()} else ∅
def lv (g : GSem nD τ sig) (_ : Unit) : ℕ := match g.2 with | .reg _ => 1 | .dma q => if 17 ≤ q.val then 2 else 0

theorem L_of_ne (g : GSem nD τ sig) (h : g.1.2 ≠ .tc) : L g = ∅ := if_neg h
theorem mem_L (c : Dev nD) (sm : SemLoc sig) (u : Unit) : u ∈ L ((c : Thread nD τ), sm) := by
  unfold L; rw [if_pos rfl]; exact Finset.mem_singleton_self _
theorem lv_recv (c : Dev nD) (s : Fin 15) (u : Unit) : lv (recvCell c s) u = 2 := if_pos (by rw [recvS_val]; omega)

omit [FloatOps F] in
/-- A staging semaphore may be awaited whatever of `O₀` is owed. -/
theorem mayWait_stage (c : Dev nD) (q : DmaSem sig) (hq : q.val < 17) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _ _)
      (fun g u hg => by rcases O₀_pos hg with ⟨d, s, rfl⟩ | ⟨d, rfl⟩ <;> exact mem_L _ _ _)
      (fun p hp => by rw [Finset.mem_singleton.mp hp]; exact (if_neg (by omega)).le)
      (fun g u hg => by
        rcases O₀_pos hg with ⟨d, s, rfl⟩ | ⟨d, rfl⟩
        · rw [lv_recv]; decide
        · exact Nat.one_pos)
  · rw [MayWait_zero]; iintro -; iempintro

omit [FloatOps F] in
/-- The barrier may be awaited while transfers are owed. -/
theorem mayWait_bar (c : Dev nD) (l : List (Fin 15)) :
    (levAts L lv : sProp 𝕄) ⊢ MayWait (c : Thread nD τ) (.reg barS) () (owedR c l) :=
  MayOwe.of_cut (L := L) (lev := lv) 1 (fun p hp => by rw [Finset.mem_singleton.mp hp]; exact mem_L _ _ _)
    (fun g u hg => by obtain ⟨d, s, rfl⟩ := owedR_pos hg; exact mem_L _ _ _)
    (fun p hp => by rw [Finset.mem_singleton.mp hp]; exact le_refl 1)
    (fun g u hg => by obtain ⟨d, s, rfl⟩ := owedR_pos hg; rw [lv_recv]; decide)

end Cert.KernelIdealProof

end
-- ==== Proof.KernelIdeal.Phases.lean ====
/-
What each phase of the kernel does to the protocol's state: the signals, the transfers and the waits, each for any list
of slots.
-/
module

public import proofs.«01_k».proof.Proof.KernelIdeal.Schedule
public import Idealize.ShloMosaic.Lib.Pipeline.BigSepL

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The shared records -/

/-- A device's cells by name: its barrier cell, then its send and receive cells by slot. -/
abbrev XferIx : Type := Fin 15 ⊕ Fin 15
abbrev CellIx : Type := Unit ⊕ XferIx
/-- Their semaphores; the barrier's is the runtime's, the others the kernel's own. -/
abbrev osem : XferIx → SemLoc sig := Sum.elim (fun s => .dma (sendS s)) (fun s => .dma (recvS s))
abbrev csem : CellIx → SemLoc sig := Sum.elim (fun _ => .reg barS) osem
abbrev kcell (ck : Dev nD × CellIx) : GSem nD τ sig := ((ck.1 : Thread nD τ), csem ck.2)

/-- What every device knows: each cell follows the protocol, and its round is open. -/
def records (K : Dev nD × CellIx → ℕ) : sProp 𝕄 :=
  iprop((bigSep Finset.univ fun ck : Dev nD × CellIx => cellInv ER (gather m ρ) (K ck) (kcell ck))
    ∗ bigSep Finset.univ fun ck : Dev nD × CellIx => reached ER (kcell ck) 0)

instance records_persistent (K : Dev nD × CellIx → ℕ) : BI.Persistent (records m ρ K) := by unfold records; infer_instance

theorem records_inv (K : Dev nD × CellIx → ℕ) (ck : Dev nD × CellIx) : records m ρ K ⊢ cellInv ER (gather m ρ) (K ck) (kcell ck) := by
  unfold records
  iintro ⟨HI, -⟩
  have h : (bigSep Finset.univ fun ck : Dev nD × CellIx => (cellInv ER (gather m ρ) (K ck) (kcell ck) : sProp 𝕄)) ⊢ cellInv ER (gather m ρ) (K ck) (kcell ck) :=
    bigSep_elim (Finset.mem_univ ck)
  iapply h; iexact HI
theorem records_reached (K : Dev nD × CellIx → ℕ) (ck : Dev nD × CellIx) : records m ρ K ⊢ reached ER (kcell ck) 0 := by
  unfold records
  iintro ⟨-, HR⟩
  have h : (bigSep Finset.univ fun ck : Dev nD × CellIx => (reached ER (kcell ck) 0 : sProp 𝕄)) ⊢ reached ER (kcell ck) 0 :=
    bigSep_elim (Finset.mem_univ ck)
  iapply h; iexact HR

/-! ## The phases -/

abbrev 𝒱₀ : Variants := Variants.none

/-- The program `p` run on device `c` ends in `Q`. -/
abbrev runs (c : Dev nD) (p : KProg F) (Q : PUnit → sProp 𝕄) : sProp 𝕄 :=
  wp frame (wpE (defs₀ (F := F)) 𝒱₀ (c : Thread nD τ) none) Set.univ p Q

variable (K : Dev nD × CellIx → ℕ)

/-- What the signal for `j` takes: the right to pay it and the slot it hands over. -/
def sigPre (c : Dev nD) (j : Fin 15) : sProp 𝕄 := iprop(dutyTok ER (barCell (fwd c j)) 0 j ∗ ∃ f, slotPts (F := F) c j.rev f)

/-- One signal. -/
theorem runs_sig (c n : Dev nD) (j : Fin 15) (hn : n = fwd c j) (O : CellTallies nD τ sig Unit) (W : Waits sig Unit) (k : KProg F) (Q : PUnit → sProp 𝕄) :
    iprop(records m ρ K ∗ owes (c : Thread nD τ) (O + tallyAt (barCell (fwd c j)) () 1) W ∗ sigPre c j)
      ⊢ iprop((owes (c : Thread nD τ) O W -∗ runs c k Q)
          -∗ runs c (.op (.semSignal (Dev.tc n) barS (1#32 : BitVec 32).toInt) fun _ => k) Q) := by
  subst hn
  unfold sigPre
  iintro ⟨#HR, HO, Ht, Hs⟩ Hk
  iapply (Rounds.wp_signal 𝒱₀ ER (gather m ρ) (c : Thread nD τ) none (dst := (fwd c j : Thread nD τ)) (κ := K (fwd c j, .inl ()))
      (d := j) (by rw [duties_bar]; exact Finset.mem_univ _) ((show (gather m ρ).amount (barCell (fwd c j)) 0 j = 1 from rfl).trans (by decide)) () O rfl)
    $$ [HO Ht Hs]
  · isplitr; · iapply (records_inv m ρ K (fwd c j, .inl ())); iexact HR
    isplitl [HO]; · iexact HO
    isplitl [Ht]; · iexact Ht
    isplitl [Hs]
    · rw [show (gather m ρ).payload (barCell (fwd c j)) 0 j = barPay (fwd c j) j from rfl]
      unfold barPay
      rw [fwd_fwd_rev]
      iexact Hs
    iapply (records_reached m ρ K (fwd c j, .inl ())); iexact HR
  iexact Hk

/-- The signals. -/
theorem runs_sigs (c : Dev nD) (O : CellTallies nD τ sig Unit) (W : Waits sig Unit) (k : KProg F) (Q : PUnit → sProp 𝕄) (l : List (Fin 15)) :
    iprop(records m ρ K ∗ owes (c : Thread nD τ) (O + owedB c l) W ∗ bigSepL l (sigPre c))
      ⊢ iprop((owes (c : Thread nD τ) O W -∗ runs c k Q) -∗ runs c (sigs c l k) Q) := by
  induction l with
  | nil =>
    iintro ⟨-, HO, -⟩ Hk
    iapply Hk
    rw [show O + owedB c [] = O from add_zero O]
    iexact HO
  | cons j l ih =>
    rw [bigSepL_cons', owedB_cons, ← add_assoc]
    iintro ⟨#HR, HO, Hj, Hl⟩ Hk
    iapply (runs_sig m ρ K c _ j (sigDev_eq c j) (O + owedB c l) W (sigs c l k) Q) $$ [HO Hj]
    · isplitr; · iexact HR
      isplitl [HO] <;> iassumption
    iintro HO
    iapply ih $$ [HO Hl]
    · isplitr; · iexact HR
      isplitl [HO] <;> iassumption
    iexact Hk

/-- What the transfer into slot `s` takes: the rights to pay both its cells, the sender's rows and the receiver's slot. -/
def sendPre (c : Dev nD) (s : Fin 15) : sProp 𝕄 :=
  iprop(dutyTok ER (sendCell c s) 0 0 ∗ dutyTok ER (recvCell (fwd c s) s) 0 0 ∗ srcPts m ρ c s ∗ ∃ f, slotPts (fwd c s) s f)

/-- One transfer. -/
theorem runs_send (c n : Dev nD) (s : Fin 15) (hn : n = fwd c s) (O : CellTallies nD τ sig Unit) (W : Waits sig Unit) (k : KProg F) (Q : PUnit → sProp 𝕄)
    {hsc : (slotM s : Memref sig (Dev.tc n : Thread nD τ).2.kind .vmem S2x512 .f32).view.ref.isScScratch = false}
    {hsrc : lM.view.WordExact} {hdst : (slotM s : Memref sig (Dev.tc n : Thread nD τ).2.kind .vmem S2x512 .f32).view.WordExact}
    {hsem : DmaTarget.Typed .vmem (.dma (recvS s)) (.remote (Dev.tc n : Thread nD τ) (slotM s) (.dma (sendS s)) hsc)} :
    iprop(records m ρ K ∗ owes (c : Thread nD τ) (O + tallyAt (recvCell (fwd c s) s) () N) W ∗ sendPre m ρ c s)
      ⊢ iprop(((owes (c : Thread nD τ) O W ∗ cred (tallyAt (sendCell c s) () N)) -∗ runs c k Q)
          -∗ runs c (.op (.enqueueDma lM (.remote (Dev.tc n : Thread nD τ) (slotM s) (.dma (sendS s)) hsc) (.dma (recvS s)) hsrc hdst hsem) fun _ => k) Q) := by
  subst hn
  unfold sendPre
  iintro ⟨#HR, HO, Hts, Htr, Hsrc, ⟨%f, Hdst⟩⟩ Hk
  iapply (Rounds.wp_send_pointsTo 𝒱₀ ER (gather m ρ) (c : Thread nD τ) none (κ₁ := K (c, .inr (.inl s))) (κ₂ := K (fwd c s, .inr (.inr s)))
    (c' := (fwd c s : Thread nD τ)) (src := lM) (dst := slotM s) (sem := .dma (recvS s))
    (r₁ := 0) (r₂ := 0) (d₁ := 0) (d₂ := 0) (q := Transfers.shareTok fullShare 15 s) (fs := msg m ρ c) (fd := f)
    (by rw [duties_send]; exact Finset.mem_singleton_self _) (by rw [duties_recv]; exact Finset.mem_singleton_self _)
    () () N (slot_credit s) rfl rfl O rfl (W := W)
    (by rw [payload_send]; exact BI.Entails.refl _)
    (by
      rw [payload_recv]
      unfold slotPts
      refine Entails.of_eq (pointsTo_congr fun i hi => ?_)
      have h := slot_written m ρ (fwd c s) s f i hi
      rw [bwd_fwd] at h
      exact h)) $$ [HO Hts Htr Hsrc Hdst]
  · isplitr; · iapply (records_inv m ρ K (c, .inr (.inl s))); iexact HR
    isplitr; · iapply (records_inv m ρ K (fwd c s, .inr (.inr s))); iexact HR
    isplitl [Hsrc]; · unfold srcPts; iexact Hsrc
    isplitl [Hdst]; · unfold slotPts; iexact Hdst
    isplitl [HO]; · iexact HO
    isplitl [Hts]; · iexact Hts
    isplitr; · iapply (records_reached m ρ K (c, .inr (.inl s))); iexact HR
    isplitl [Htr]; · iexact Htr
    iapply (records_reached m ρ K (fwd c s, .inr (.inr s))); iexact HR
  iintro ⟨Hc, HO⟩
  iapply Hk
  isplitl [HO] <;> iassumption

/-- The transfers: nothing is owed after them, and each send's credit is the device's. -/
theorem runs_sends (c : Dev nD) (W : Waits sig Unit) (k : KProg F) (Q : PUnit → sProp 𝕄) (l : List (Fin 15)) :
    iprop(records m ρ K ∗ owes (c : Thread nD τ) (owedR c l) W ∗ bigSepL l (sendPre m ρ c))
      ⊢ iprop(((owes (c : Thread nD τ) 0 W ∗ bigSepL l fun s => cred (tallyAt (sendCell c s) () N)) -∗ runs c k Q) -∗ runs c (sends c l k) Q) := by
  induction l generalizing Q with
  | nil =>
    iintro ⟨-, HO, -⟩ Hk
    iapply Hk
    isplitl [HO]; · iexact HO
    iempintro
  | cons s l ih =>
    rw [bigSepL_cons', bigSepL_cons', owedR_cons]
    iintro ⟨#HR, HO, Hs, Hl⟩ Hk
    iapply (runs_send m ρ K c _ s (sendDev_eq c s) (owedR c l) W (sends c l k) Q) $$ [HO Hs]
    · isplitr; · iexact HR
      isplitl [HO] <;> iassumption
    iintro ⟨HO, Hc⟩
    iapply ih $$ [HO Hl]
    · isplitr; · iexact HR
      isplitl [HO] <;> iassumption
    iintro ⟨HO, Hcs⟩
    iapply Hk
    isplitl [HO]; · iexact HO
    isplitl [Hc] <;> iassumption

/-- What the waits for slot `s` take: the device's positions at the slot's two cells and their credits; -/
def waitPre (c : Dev nD) (s : Fin 15) : sProp 𝕄 :=
  iprop(atPos ER (sendCell c s) 0 ∅ 0 ∗ atPos ER (recvCell c s) 0 ∅ 0 ∗ cred (tallyAt (sendCell c s) () N) ∗ cred (tallyAt (recvCell c s) () N))
/-- what they give: both counters at zero, the sent rows back, the slot filled. -/
def waitPost (c : Dev nD) (s : Fin 15) : sProp 𝕄 :=
  iprop(semVal (sendCell c s) 0 ∗ semVal (recvCell c s) 0 ∗ srcPts m ρ c s ∗ slotPts c s (landed m ρ c))

/-- One pair of waits. -/
theorem runs_wait (c : Dev nD) (s : Fin 15) (W : Waits sig Unit) (k : KProg F) (Q : PUnit → sProp 𝕄)
    {h₁ : (slotM s).view.WordExact} {h₂ : lM.view.WordExact} {h₃ : lM.view.WordExact} {h₄ : (slotM s).view.WordExact} :
    iprop(records m ρ K ∗ owes (c : Thread nD τ) 0 W ∗ waitPre c s)
      ⊢ iprop((((∃ W', owes (c : Thread nD τ) 0 W') ∗ waitPost m ρ c s) -∗ runs c k Q)
          -∗ runs c (.op (.waitDma2 (sendS s) (slotM s) lM h₁ h₂) fun _ => .op (.waitDma2 (recvS s) lM (slotM s) h₃ h₄) fun _ => k) Q) := by
  unfold waitPre
  iintro ⟨#HR, HO, HaS, HaR, HcS, HcR⟩ Hk
  iapply (Rounds.wp_wait_rest_token 𝒱₀ ER (gather m ρ) (c : Thread nD τ) none (κ := K (c, .inr (.inl s)))
      (wpE_waitDma2_eq 𝒱₀ (c : Thread nD τ) none Set.univ) (Set.mem_univ _) () (O := 0) (W := W) (R := 0) (m := 0) (T := ∅)
      (by rw [Nat.zero_add, expect_send])) $$ [HcS HO HaS]
  · isplitr; · iapply (records_inv m ρ K (c, .inr (.inl s))); iexact HR
    isplitl [HcS]; · iexact HcS
    isplitl [HO]; · iexact HO
    isplitr; · rw [MayWait_zero]; iempintro
    iexact HaS
  iintro ⟨HO, HaS, -, Hp⟩
  ihave Hsrc := (Entails.of_eq (rest_send m ρ c s)) $$ Hp
  iapply (Rounds.wp_wait_rest_token 𝒱₀ ER (gather m ρ) (c : Thread nD τ) none (κ := K (c, .inr (.inr s)))
      (wpE_waitDma2_eq 𝒱₀ (c : Thread nD τ) none Set.univ) (Set.mem_univ _) () (O := 0) (R := 0) (m := 0) (T := ∅)
      (by rw [Nat.zero_add, expect_recv])) $$ [HcR HO HaR]
  · isplitr; · iapply (records_inv m ρ K (c, .inr (.inr s))); iexact HR
    isplitl [HcR]; · iexact HcR
    isplitl [HO]; · iexact HO
    isplitr; · rw [MayWait_zero]; iempintro
    iexact HaR
  iintro ⟨HO, HaR, -, Hp⟩
  ihave Hdst := (Entails.of_eq (rest_recv m ρ c s)) $$ Hp
  imod (Rounds.cell_close ER (gather m ρ) (Set.mem_univ (K (c, .inr (.inl s)))) (fun h => h) (R := 0 + 1) (duties_later m ρ (sendCell c s))) $$ [HaS] with HzS
  · isplitr; · iapply (records_inv m ρ K (c, .inr (.inl s))); iexact HR
    iexact HaS
  imod (Rounds.cell_close ER (gather m ρ) (Set.mem_univ (K (c, .inr (.inr s)))) (fun h => h) (R := 0 + 1) (duties_later m ρ (recvCell c s))) $$ [HaR] with HzR
  · isplitr; · iapply (records_inv m ρ K (c, .inr (.inr s))); iexact HR
    iexact HaR
  iapply Hk
  isplitl [HO]; · iexists _; iexact HO
  unfold waitPost
  isplitl [HzS]; · iexact HzS
  isplitl [HzR]; · iexact HzR
  isplitl [Hsrc] <;> iassumption

/-- The waits. -/
theorem runs_waits (c : Dev nD) (k : KProg F) (Q : PUnit → sProp 𝕄) (l : List (Fin 15)) :
    iprop(records m ρ K ∗ (∃ W, owes (c : Thread nD τ) 0 W) ∗ bigSepL l (waitPre c))
      ⊢ iprop((((∃ W', owes (c : Thread nD τ) 0 W') ∗ bigSepL l (waitPost m ρ c)) -∗ runs c k Q) -∗ runs c (waits l k) Q) := by
  induction l with
  | nil =>
    iintro ⟨-, HO, -⟩ Hk
    iapply Hk
    isplitl [HO]; · iexact HO
    iempintro
  | cons s l ih =>
    rw [bigSepL_cons', bigSepL_cons']
    iintro ⟨#HR, ⟨%W, HO⟩, Hs, Hl⟩ Hk
    iapply (runs_wait m ρ K c s W (waits l k) Q) $$ [HO Hs]
    · isplitr; · iexact HR
      isplitl [HO] <;> iassumption
    iintro ⟨HO, Hs⟩
    iapply ih $$ [HO Hl]
    · isplitr; · iexact HR
      isplitl [HO] <;> iassumption
    iintro ⟨HO, Hl⟩
    iapply Hk
    isplitl [HO]; · iexact HO
    isplitl [Hs] <;> iassumption

end Cert.KernelIdealProof

end
-- ==== Proof.KernelIdeal.Body.lean ====
/-
The kernel's body on one device: from the device's share of the protocol, its block of the argument and its scratch
buffers, it ends with the result buffer at `outAt`, its counters at zero and its scratch buffers whole.
-/
module

public import proofs.«01_k».proof.Proof.KernelIdeal.Phases

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Device state -/

/-- A whole buffer of device `c` at contents `f`. -/
abbrev holds (c : Dev nD) (b : Ref sig .tc) (f : b.ty.Contents (Elt F)) : sProp 𝕄 := ((c : Thread nD τ).loc b) ↦{fullShare} f

/-- The rights to pay that device `c` uses. -/
def payToks (c : Dev nD) : sProp 𝕄 :=
  iprop((bigSep Finset.univ fun j : Fin 15 => dutyTok ER (barCell (fwd c j)) 0 j)
    ∗ (bigSep Finset.univ fun s : Fin 15 => dutyTok ER (sendCell c s) 0 0)
    ∗ (bigSep Finset.univ fun s : Fin 15 => dutyTok ER (recvCell (fwd c s) s) 0 0))

/-- What is device `c`'s alone: its positions at its cells and those rights. -/
def linear (c : Dev nD) : sProp 𝕄 :=
  iprop((bigSep Finset.univ fun k : CellIx => atPos ER (kcell (c, k)) 0 ∅ 0) ∗ payToks c)

/-- What device `c` starts from. -/
def start (c : Dev nD) : sProp 𝕄 :=
  iprop((∃ K, records m ρ K ∗ linear c) ∗ cred (tallyAt (barCell c) () 15)
    ∗ (bigSep Finset.univ fun s : Fin 15 => cred (tallyAt (recvCell c s) () N)) ∗ levAts L lv)

def Φ₀ (c : Dev nD) : sProp 𝕄 := iprop(start m ρ c ∗ (∃ f, holds c cc0_scratch0 f) ∗ ∃ f, holds c cc0_scratch1 f)
/-- What it ends with. -/
def Φ₁ (c : Dev nD) : sProp 𝕄 :=
  iprop((∃ f, holds (F := F) c cc0_scratch0 f) ∗ (∃ f, holds (F := F) c cc0_scratch1 f)
    ∗ (bigSep Finset.univ fun k : XferIx => semVal ((c : Thread nD τ), osem k) 0) ∗ semVal (barCell c) 0)

/-- The windows: the argument's block stays, the result's ends at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Slots, listed and split -/

theorem bigSep_either {α β : Type} [Fintype α] [Fintype β] (Φ : α ⊕ β → sProp 𝕄) :
    bigSep Finset.univ Φ = iprop((bigSep Finset.univ fun a => Φ (.inl a)) ∗ bigSep Finset.univ fun b => Φ (.inr b)) := bigSep_univ_sum Φ

theorem slots_univ : (Finset.univ : Finset (Fin 15)) = slots.toFinset := by decide
theorem bigSep_slots (Φ : Fin 15 → sProp 𝕄) : bigSep Finset.univ Φ = bigSepL slots Φ :=
  bigSep_univ_eq_bigSepL slots slots_univ (by decide) Φ

/-- The gather buffer is its slots. -/
theorem holds_slots (c : Dev nD) (f : (cc0_scratch1 : Ref sig .tc).ty.Contents (Elt F)) :
    holds c cc0_scratch1 f = bigSep Finset.univ fun s : Fin 15 => slotPts (F := F) c s f :=
  Ring.pointsTo_blocks (ℓ := (c : Thread nD τ).loc cc0_scratch1) slotSet slot_disjoint slot_cover f

/-- The same, the slots counted from the other end. -/
theorem holds_slots_rev (c : Dev nD) (f : (cc0_scratch1 : Ref sig .tc).ty.Contents (Elt F)) :
    holds c cc0_scratch1 f = bigSep Finset.univ fun j : Fin 15 => slotPts (F := F) c j.rev f := by
  rw [holds_slots, bigSep_univ_equiv Fin.revPerm (fun s : Fin 15 => slotPts (F := F) c s f)]
  rfl

/-- The sent rows are a remainder and one share per slot. -/
theorem holds_toks (c : Dev nD) :
    holds c cc0_scratch0 (msg m ρ c) ⊣⊢ iprop((((c : Thread nD τ).loc cc0_scratch0) ↦{Transfers.shareDrop fullShare 15} msg m ρ c)
      ∗ bigSep Finset.univ fun s : Fin 15 => srcPts m ρ c s) := by
  have h : ∀ s : Fin 15, srcPts m ρ c s = (((c : Thread nD τ).loc cc0_scratch0) ↦{Transfers.shareTok fullShare 15 s} msg m ρ c : sProp 𝕄) :=
    fun s => by unfold srcPts; rw [show lM.view.set = Finset.univ from View.set_whole _]
  rw [show (bigSep Finset.univ fun s : Fin 15 => srcPts m ρ c s) = bigSep Finset.univ fun s : Fin 15 =>
    (((c : Thread nD τ).loc cc0_scratch0) ↦{Transfers.shareTok fullShare 15 s} msg m ρ c : sProp 𝕄) from bigSep_congr fun s _ => h s]
  exact Transfers.pointsTo_toks fullShare 15

/-! ## Whole-buffer loads and stores -/

theorem off2 : (![0, 0] : Fin 2 → Nat) = fun _ => 0 := funext fun a => by fin_cases a <;> rfl
theorem off3 : (![0, 0, 0] : Fin 3 → Nat) = fun _ => 0 := funext fun a => by fin_cases a <;> rfl

theorem runs_loadX (c : Dev nD) (f : (cc0_stg0_0 : Ref sig .tc).ty.Contents (Elt F)) (k) (Q : PUnit → sProp 𝕄) :
    holds c cc0_stg0_0 f ⊢ iprop((holds c cc0_stg0_0 f -∗ runs c (k f) Q) -∗ runs c (loadX k) Q) := by
  iintro Hx Hk
  iapply (wp_load 𝒱₀ (c : Thread nD τ) none Set.univ (m := xM) (Finset.subset_univ _)) $$ Hx; iintro Hx
  rw [show xM.view.readAt (Elt F) (Rect.unit (s := S512x512) ![0, 0] S512x512.size inb_S512x512_S512x512_0_0).toLoadRect f = f from
    Memref.readAt_unit_zero (Elt F) cc0_stg0_0 off2 _ f]
  iapply Hk; iexact Hx

theorem runs_loadG (c : Dev nD) (f : (cc0_scratch1 : Ref sig .tc).ty.Contents (Elt F)) (k) (Q : PUnit → sProp 𝕄) :
    holds c cc0_scratch1 f ⊢ iprop((holds c cc0_scratch1 f -∗ runs c (k f) Q) -∗ runs c (loadG k) Q) := by
  iintro Hx Hk
  iapply (wp_load 𝒱₀ (c : Thread nD τ) none Set.univ (m := rM) (Finset.subset_univ _)) $$ Hx; iintro Hx
  rw [show rM.view.readAt (Elt F) (Rect.unit (s := S15x2x512) ![0, 0, 0] S15x2x512.size inb_S15x2x512_S15x2x512_0_0_0).toLoadRect f = f from
    Memref.readAt_unit_zero (Elt F) cc0_scratch1 off3 _ f]
  iapply Hk; iexact Hx

/-- A load of two rows whose value is not used, and the store over them. -/
theorem runs_put (c : Dev nD) (f w : S2x512.Idx → F .f32) (k : KProg F) (Q : PUnit → sProp 𝕄) :
    holds c cc0_scratch0 f ⊢ iprop((holds c cc0_scratch0 w -∗ runs c k Q) -∗ runs c (load2 lM fun _ => store2 lM w k) Q) := by
  iintro Hx Hk
  iapply (wp_load 𝒱₀ (c : Thread nD τ) none Set.univ (m := lM) (Finset.subset_univ _)) $$ Hx; iintro Hx
  iapply (wp_store 𝒱₀ (c : Thread nD τ) none Set.univ (m := lM) (r := Rect.unit (s := S2x512) ![0, 0] S2x512.size inb_S2x512_S2x512_0_0)
    (Mk := Finset.univ) (Finset.subset_univ _)) $$ Hx; iintro Hx
  rw [show ((lM.access (Rect.unit (s := S2x512) ![0, 0] S2x512.size inb_S2x512_S2x512_0_0) : View sig .tc _ _ _).write (Elt F) f w Finset.univ) = w from
    Memref.write_access_unit_zero_univ (Elt F) cc0_scratch0 off2 _ f w]
  iapply Hk; iexact Hx
theorem runs_putO (c : Dev nD) (f w : S2x512.Idx → F .f32) (k : KProg F) (Q : PUnit → sProp 𝕄) :
    holds c cc0_stg1_0 f ⊢ iprop((holds c cc0_stg1_0 w -∗ runs c k Q) -∗ runs c (load2 oM fun _ => store2 oM w k) Q) := by
  iintro Hx Hk
  iapply (wp_load 𝒱₀ (c : Thread nD τ) none Set.univ (m := oM) (Finset.subset_univ _)) $$ Hx; iintro Hx
  iapply (wp_store 𝒱₀ (c : Thread nD τ) none Set.univ (m := oM) (r := Rect.unit (s := S2x512) ![0, 0] S2x512.size inb_S2x512_S2x512_0_0)
    (Mk := Finset.univ) (Finset.subset_univ _)) $$ Hx; iintro Hx
  rw [show ((oM.access (Rect.unit (s := S2x512) ![0, 0] S2x512.size inb_S2x512_S2x512_0_0) : View sig .tc _ _ _).write (Elt F) f w Finset.univ) = w from
    Memref.write_access_unit_zero_univ (Elt F) cc0_stg1_0 off2 _ f w]
  iapply Hk; iexact Hx

/-- The barrier wait: the slots the device is to fill are handed to it, and its barrier counter returns to zero. -/
theorem runs_bar (K : Dev nD × CellIx → ℕ) (c : Dev nD) (W : Waits sig Unit) (k : KProg F) (Q : PUnit → sProp 𝕄) :
    iprop(records m ρ K ∗ levAts L lv ∗ owes (c : Thread nD τ) (owedR c slots) W ∗ atPos ER (barCell c) 0 ∅ 0 ∗ cred (tallyAt (barCell c) () 15))
      ⊢ iprop((((∃ W', owes (c : Thread nD τ) (owedR c slots) W') ∗ semVal (barCell c) 0
            ∗ bigSep Finset.univ fun s : Fin 15 => iprop(∃ f, slotPts (F := F) (fwd c s) s f)) -∗ runs c k Q)
          -∗ runs c (.op (.semWait barS (15#32 : BitVec 32).toInt) fun _ => k) Q) := by
  iintro ⟨#HR, #Hlev, HO, Hat, Hc⟩ Hk
  iapply (Rounds.wp_wait_rest_token 𝒱₀ ER (gather m ρ) (c : Thread nD τ) none (κ := K (c, .inl ()))
      (wpE_semWait_eq 𝒱₀ (c : Thread nD τ) none Set.univ) (Set.mem_univ _) () (O := owedR c slots) (W := W) (R := 0) (m := 0) (T := ∅)
      (by rw [expect_bar]; decide)) $$ [Hc HO Hat]
  · isplitr; · iapply (records_inv m ρ K (c, .inl ())); iexact HR
    isplitl [Hc]; · iexact Hc
    isplitl [HO]; · iexact HO
    isplitr; · iapply (mayWait_bar c slots); iexact Hlev
    iexact Hat
  iintro ⟨HO, Hat, -, Hp⟩
  ihave Hp := (Entails.of_eq (rest_bar m ρ c)) $$ Hp
  imod (Rounds.cell_close ER (gather m ρ) (Set.mem_univ (K (c, .inl ()))) (fun h => h) (R := 0 + 1) (duties_later m ρ (barCell c))) $$ [Hat] with Hz
  · isplitr; · iapply (records_inv m ρ K (c, .inl ())); iexact HR
    iexact Hat
  iapply Hk
  isplitl [HO]; · iexists _; iexact HO
  isplitl [Hz] <;> iassumption

/-! ## The body -/

/-- The program reads its device first. -/
theorem runs_prog (c : Dev nD) (Q : PUnit → sProp 𝕄) : runs c prog Q = runs c (progAt c) Q := wp_deviceId 𝒱₀ (c : Thread nD τ) none Set.univ

/-- A program that is done has ended. -/
theorem runs_ret (c : Dev nD) (Q : PUnit → sProp 𝕄) : Q ⟨⟩ ⊢ runs c (.ret ⟨⟩) Q := by
  show Q ⟨⟩ ⊢ wp frame (wpE (defs₀ (F := F)) 𝒱₀ (c : Thread nD τ) none) Set.univ (.ret ⟨⟩) Q
  rw [wp_ret]
  iintro H
  imodintro
  iexact H

/-- The families of resources the signals and the transfers take, and those the waits take and give, slot by slot. -/
theorem sigPre_intro (c : Dev nD) (f : (cc0_scratch1 : Ref sig .tc).ty.Contents (Elt F)) :
    iprop((bigSep Finset.univ fun j : Fin 15 => dutyTok ER (barCell (fwd c j)) 0 j) ∗ holds c cc0_scratch1 f) ⊢ bigSepL slots (sigPre (F := F) c) := by
  have h : ∀ j : Fin 15, (iprop(dutyTok ER (barCell (fwd c j)) 0 j ∗ slotPts c j.rev f) : sProp 𝕄) ⊢ sigPre c j := fun j => by
    unfold sigPre
    iintro ⟨H1, H2⟩
    isplitl [H1]; · iexact H1
    iexists f; iexact H2
  rw [← bigSep_slots, holds_slots_rev, ← bigSep_sep']
  exact bigSep_mono fun j _ => h j
theorem sendPre_intro (c : Dev nD) :
    iprop((bigSep Finset.univ fun s : Fin 15 => dutyTok ER (sendCell c s) 0 0) ∗ (bigSep Finset.univ fun s : Fin 15 => dutyTok ER (recvCell (fwd c s) s) 0 0)
        ∗ (bigSep Finset.univ fun s : Fin 15 => srcPts m ρ c s) ∗ bigSep Finset.univ fun s : Fin 15 => iprop(∃ f, slotPts (F := F) (fwd c s) s f))
      ⊢ bigSepL slots (sendPre m ρ c) := by
  rw [← bigSep_slots, ← bigSep_sep', ← bigSep_sep', ← bigSep_sep']
  exact bigSep_mono fun s _ => by unfold sendPre; exact BI.Entails.refl _
theorem waitPre_intro (c : Dev nD) :
    iprop((bigSep Finset.univ fun k : XferIx => (atPos ER (kcell (c, .inr k)) 0 ∅ 0 : sProp 𝕄)) ∗ (bigSepL slots fun s => cred (tallyAt (sendCell c s) () N))
        ∗ (bigSep Finset.univ fun s : Fin 15 => cred (tallyAt (recvCell c s) () N)))
      ⊢ bigSepL slots (waitPre (F := F) c) := by
  have h : ∀ s : Fin 15, (iprop((atPos ER (sendCell c s) 0 ∅ 0 ∗ atPos ER (recvCell c s) 0 ∅ 0) ∗ cred (tallyAt (sendCell c s) () N)
      ∗ cred (tallyAt (recvCell c s) () N)) : sProp 𝕄) ⊢ waitPre c s := fun s => by
    unfold waitPre
    iintro ⟨⟨H1, H2⟩, H3, H4⟩
    isplitl [H1]; · iexact H1
    isplitl [H2]; · iexact H2
    isplitl [H3] <;> iassumption
  rw [← bigSep_slots, ← bigSep_slots, bigSep_either]
  refine .trans ?_ (bigSep_mono fun s _ => h s)
  rw [bigSep_sep', bigSep_sep', bigSep_sep']
  exact BI.Entails.refl _
theorem waitPost_elim (c : Dev nD) :
    bigSepL slots (waitPost m ρ c)
      ⊢ iprop((bigSep Finset.univ fun k : XferIx => semVal ((c : Thread nD τ), osem k) 0) ∗ (bigSep Finset.univ fun s : Fin 15 => srcPts m ρ c s)
        ∗ holds c cc0_scratch1 (landed m ρ c)) := by
  rw [← bigSep_slots, bigSep_either, holds_slots]
  unfold waitPost
  rw [bigSep_sep', bigSep_sep', bigSep_sep']
  iintro ⟨H1, H2, H3, H4⟩
  isplitl [H1 H2]
  · isplitl [H1]; · iexact H1
    iexact H2
  isplitl [H3] <;> iassumption

/-- The body's run: what it takes and what it leaves. -/
theorem runs_body (c : Dev nD) (W : Waits sig Unit) (fo : (cc0_stg1_0 : Ref sig .tc).ty.Contents (Elt F)) (Q : PUnit → sProp 𝕄) :
    iprop(Φ₀ m ρ c ∗ owes (c : Thread nD τ) (O₀ c) W ∗ holds c cc0_stg0_0 (xstg m ρ c) ∗ holds c cc0_stg1_0 fo)
      ⊢ iprop(((Φ₁ c ∗ (∃ W', owes (c : Thread nD τ) 0 W') ∗ holds c cc0_stg0_0 (xstg m ρ c) ∗ holds c cc0_stg1_0 (outAt m ρ c)) -∗ Q ⟨⟩)
          -∗ runs c prog Q) := by
  unfold Φ₀ start linear payToks O₀
  rw [bigSep_either (fun k : CellIx => (atPos ER (kcell (c, k)) 0 ∅ 0 : sProp 𝕄))]
  iintro ⟨⟨⟨⟨%K, #HR, ⟨⟨HaB, HaX⟩, HtB, HtS, HtR⟩⟩, HcB, HcR, #Hlev⟩, ⟨%fl, Hl⟩, ⟨%fg, Hg⟩⟩, HO, Hx, Ho⟩ Hk
  rw [runs_prog]
  unfold progAt
  -- the signals hand the gather buffer out slot by slot
  iapply (runs_sigs m ρ K c (owedR c slots) W _ Q slots) $$ [HO HtB Hg]
  · isplitr; · iexact HR
    isplitl [HO]; · iexact HO
    iapply (sigPre_intro c fg)
    isplitl [HtB]; · iexact HtB
    iexact Hg
  iintro HO
  -- the two rows of the device's own block
  iapply (runs_loadX c (xstg m ρ c)) $$ Hx; iintro Hx
  iapply (runs_put c fl) $$ Hl; iintro Hl
  -- the barrier
  iapply (runs_bar m ρ K c W) $$ [HO HaB HcB]
  · isplitr; · iexact HR
    isplitr; · iexact Hlev
    isplitl [HO]; · iexact HO
    isplitl [HaB]; · iapply (Entails.of_eq (bigSep_singleton (i := ()) (Φ := fun a : Unit => (atPos ER (kcell (c, .inl a)) 0 ∅ 0 : sProp 𝕄)))); iexact HaB
    iexact HcB
  iintro ⟨⟨%W₁, HO⟩, HzB, Hd⟩
  -- the transfers
  ihave Hl := (show holds c cc0_scratch0 (k0_pay5 (k0_pay4 (pos c) (xstg m ρ c))) ⊢ _ from (holds_toks m ρ c).1) $$ Hl
  icases Hl with ⟨Hdrop, Hsrc⟩
  iapply (runs_sends m ρ K c W₁ _ Q slots) $$ [HO HtS HtR Hsrc Hd]
  · isplitr; · iexact HR
    isplitl [HO]; · iexact HO
    iapply (sendPre_intro m ρ c)
    isplitl [HtS]; · iexact HtS
    isplitl [HtR]; · iexact HtR
    isplitl [Hsrc] <;> iassumption
  iintro ⟨HO, HcS⟩
  -- the waits
  iapply (runs_waits m ρ K c _ Q slots) $$ [HO HaX HcS HcR]
  · isplitr; · iexact HR
    isplitl [HO]; · iexists W₁; iexact HO
    iapply (waitPre_intro c)
    isplitl [HaX]; · iexact HaX
    isplitl [HcS] <;> iassumption
  iintro ⟨HO, Hp⟩
  ihave Hp := (waitPost_elim m ρ c) $$ Hp
  icases Hp with ⟨Hz, Hsrc, Hg⟩
  -- the merge
  iapply (runs_loadG c (landed m ρ c)) $$ Hg; iintro Hg
  iapply (runs_putO c fo) $$ Ho; iintro Ho
  iapply (runs_ret c Q)
  iapply Hk
  unfold Φ₁
  isplitl [Hdrop Hsrc Hg Hz HzB]
  · isplitl [Hdrop Hsrc]
    · iexists (msg m ρ c)
      iapply (holds_toks m ρ c).2
      isplitl [Hdrop] <;> iassumption
    isplitl [Hg]; · iexists (landed m ρ c); iexact Hg
    isplitl [Hz] <;> iassumption
  isplitl [HO]; · iexact HO
  isplitl [Hx]; · iexact Hx
  iexact Ho

end Cert.KernelIdealProof

end
-- ==== Proof.KernelIdeal.Launch.lean ====
/-
The launch: every device's share of the protocol is dealt from the initial state, each device's body runs as `Body` says,
and the run of the whole program is read off.
-/
module

public import proofs.«01_k».proof.Proof.KernelIdeal.Body
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch asks for it -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : b.ty.Contents (Elt F), ⌜f = X⌝ ∗ holds c b f) := by
  unfold owns; simp only [Memref.view_whole, View.read_whole, View.set_whole]

/-- A staging buffer of device `c` at contents `X`. -/
abbrev staged (c : Dev nD) (b : Ref sig .tc) (X : b.ty.Contents (Elt F)) : sProp 𝕄 := iprop(∃ f : b.ty.Contents (Elt F), ⌜f = X⌝ ∗ holds c b f)

theorem fetch_x (t : Fin cfg0.N) : (cfg0.win (0 : Fin 2)).fetch t = true := fetch0_0 t

theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole]
  show iprop(Φ₀ m ρ c ∗ (dats m ρ 0 c).owesAt () t₀.castSucc
      ∗ (∃ d, staged c cc0_stg0_0 ((dats m ρ 0 c).before (0 : Fin 2) t₀ d)) ∗ (∃ d, staged c cc0_stg1_0 ((dats m ρ 0 c).before (1 : Fin 2) t₀ d)))
    ⊢ runs c (cc0_body xM (Memref.isWhole_whole _) oM (Memref.isWhole_whole _) lM (Memref.isWhole_whole _) rM (Memref.isWhole_whole _)
        cc0_scratch2 cc0_scratch3) fun _ =>
      iprop(Φ₁ c ∗ (dats m ρ 0 c).owesAt () t₀.succ ∗ staged c cc0_stg0_0 (xstg m ρ c) ∗ staged c cc0_stg1_0 (outAt m ρ c))
  rw [body_eq]
  unfold Dat.owesAt Pipeline.owesWithin
  rw [show (dats m ρ 0 c).owed t₀.castSucc = O₀ c from rfl, show (dats m ρ 0 c).owed t₀.succ = 0 from rfl]
  iintro ⟨HΦ, ⟨%W, %hW, HO⟩, ⟨%d0, %g0, %hg0, Hx⟩, ⟨%d1, %g1, %hg1, Ho⟩⟩
  have hx : g0 = xstg m ρ c := by rw [hg0]; unfold Dat.before; rw [if_pos (fetch_x t₀)]; rfl
  subst hx
  iapply (runs_body m ρ c W g1) $$ [HΦ HO Hx Ho]
  · isplitl [HΦ]; · iexact HΦ
    isplitl [HO]; · iexact HO
    isplitl [Hx] <;> iassumption
  iintro ⟨HΦ, ⟨%W', HO⟩, Hx, Ho⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-! ## The protocol's state at launch -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := by
  rintro (⟨⟩ | s | s) (⟨⟩ | s' | s') h
  · rfl
  · cases h
  · cases h
  · cases h
  · rw [sendS_inj (SemLoc.dma.inj h)]
  · exact absurd (SemLoc.dma.inj h) (send_ne_recv s s')
  · cases h
  · exact absurd (SemLoc.dma.inj h).symm (send_ne_recv s' s)
  · rw [recvS_inj (SemLoc.dma.inj h)]

theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_injective (congrArg Prod.snd h)
  rw [h1, h2]
def gatherCells : Finset (GSem nD τ sig) := Finset.univ.map ⟨kcell, kcell_injective⟩

/-- The duties of one device's cells: one per slot at its barrier cell, one at each send and each receive cell. -/
abbrev DutyIx : Type := Fin 15 ⊕ XferIx
abbrev tokOf (cj : Dev nD × DutyIx) : GSem nD τ sig × ℕ × Fin 15 :=
  (kcell (cj.1, cj.2.elim (fun _ => .inl ()) .inr), 0, cj.2.elim (fun j => j) fun _ => 0)
theorem tokOf_injective : Function.Injective (tokOf : Dev nD × DutyIx → GSem nD τ sig × ℕ × Fin 15) := by
  rintro ⟨c, j⟩ ⟨c', j'⟩ h
  have h1 := Prod.mk.inj (kcell_injective (congrArg Prod.fst h))
  have h2 := congrArg (fun x => x.2.2) h
  rcases j with j | j <;> rcases j' with j' | j'
  · exact Prod.ext h1.1 (congrArg Sum.inl h2)
  · exact absurd h1.2 (fun h => by cases h)
  · exact absurd h1.2 (fun h => by cases h)
  · exact Prod.ext h1.1 (congrArg Sum.inr (Sum.inr.inj h1.2))
def gatherToks : Finset (GSem nD τ sig × ℕ × Fin 15) := Finset.univ.map ⟨tokOf, tokOf_injective⟩

def u₀ : UU :=
  (initOf (Pipeline.cells cfgs cellOf_inj) (Pipeline.launchToks cfgs cellOf_inj), initOf gatherCells gatherToks)

/-- The rights to pay device `c`'s own cells. -/
def toks (c : Dev nD) : sProp 𝕄 :=
  iprop((bigSep Finset.univ fun j : Fin 15 => dutyTok ER (barCell c) 0 j)
    ∗ (bigSep Finset.univ fun s : Fin 15 => dutyTok ER (sendCell c s) 0 0) ∗ bigSep Finset.univ fun s : Fin 15 => dutyTok ER (recvCell c s) 0 0)

/-- What the launch deals device `c`; -/
def G (c : Dev nD) : sProp 𝕄 :=
  iprop((bigSep Finset.univ fun k : CellIx => roundState ER (gather m ρ) (kcell (c, k)) 0)
    ∗ (bigSep Finset.univ fun k : CellIx => iprop(atPos ER (kcell (c, k)) 0 ∅ 0 ∗ reached ER (kcell (c, k)) 0)) ∗ toks c)
/-- what the devices make of it together. -/
def G' (c : Dev nD) : sProp 𝕄 := iprop(∃ K, records m ρ K ∗ linear c)

theorem fund_gather : BI.own (ER (initOf gatherCells gatherToks)) ⊢ (|==> bigSep Finset.univ (G m ρ) : sProp 𝕄) := by
  have hX (Φ : GSem nD τ sig → sProp 𝕄) : bigSep gatherCells Φ = bigSep Finset.univ fun c : Dev nD => bigSep Finset.univ fun k : CellIx => Φ (kcell (c, k)) := by
    unfold gatherCells; rw [bigSep_map, bigSep_univ_prod]; rfl
  have hT : bigSep gatherToks (fun x => (dutyTok ER x.1 x.2.1 x.2.2 : sProp 𝕄)) = bigSep Finset.univ fun c : Dev nD => toks c := by
    unfold gatherToks; rw [bigSep_map, bigSep_univ_prod]
    exact bigSep_congr fun c _ => by unfold toks; rw [bigSep_either, bigSep_either]; rfl
  iintro HX
  imod (Rounds.fund ER (gather m ρ) gatherCells gatherToks) $$ HX with ⟨Hst, Hr, Hat, Htok⟩
  imodintro
  ihave Hst' := (Entails.of_eq (hX fun g => roundState ER (gather m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch's own semaphores are the send and receive cells; its one unscoped semaphore is the barrier. -/
theorem unscoped_bar (c : Dev nD) : (unscopedSems0 c : sProp 𝕄) = semVal (barCell c) 0 := by
  unfold unscopedSems0; rw [bigSep_eq_bigSepL_of_eq [SemLoc.reg barS] (by decide) (by decide)]; rfl
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [unscoped_bar, bigSep_either]
  unfold Pipeline.ownSems0
  iintro ⟨HX, HB⟩
  isplitl [HB]
  · iapply (Entails.of_eq (bigSep_singleton (i := ()) (Φ := fun a : Unit => (semVal (kcell (c, .inl a)) 0 : sProp 𝕄))).symm); iexact HB
  iexact HX

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (gather m ρ) κ (kcell (c, k))))
          ∗ (bigSep Finset.univ fun k => iprop(atPos ER (kcell (c, k)) 0 ∅ 0 ∗ reached ER (kcell (c, k)) 0)) ∗ toks c) := by
  have h : iprop((bigSep Finset.univ fun k : CellIx => semVal (kcell (c, k)) 0) ∗ bigSep Finset.univ fun k : CellIx => roundState ER (gather m ρ) (kcell (c, k)) 0)
      ⊢ (|={Set.univ}=> bigSep Finset.univ fun k => iprop(∃ κ : ℕ, cellInv ER (gather m ρ) κ (kcell (c, k))) : sProp 𝕄) := by
    rw [← bigSep_sep']
    exact (bigSep_mono fun k _ => (Rounds.body_intro ER (gather m ρ) (kcell (c, k))).trans inv_alloc).trans (bigSep_fupd _ _)
  unfold G
  iintro ⟨Hos, Hus, Hst, Hat, Htok⟩
  ihave Hv := (sems0 (F := F) c) $$ [Hos Hus]
  · isplitl [Hos] <;> iassumption
  imod h $$ [Hv Hst] with Hinv
  · isplitl [Hv] <;> iassumption
  imodintro
  isplitl [Hinv]; · iexact Hinv
  isplitl [Hat]; · iexact Hat
  iexact Htok

/-- The rights go round: a barrier or receive cell's to the device that pays it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    ← bigSep_univ_prod (fun p : Dev nD × Fin 15 => (dutyTok ER (barCell p.1) 0 p.2 : sProp 𝕄)),
    ← bigSep_univ_prod (fun p : Dev nD × Fin 15 => (dutyTok ER (recvCell p.1 p.2) 0 0 : sProp 𝕄)),
    bigSep_univ_equiv turn (fun p : Dev nD × Fin 15 => (dutyTok ER (barCell p.1) 0 p.2 : sProp 𝕄)),
    bigSep_univ_equiv turn (fun p : Dev nD × Fin 15 => (dutyTok ER (recvCell p.1 p.2) 0 0 : sProp 𝕄)),
    bigSep_univ_prod, bigSep_univ_prod]
  exact BI.Entails.refl _

theorem share_out {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dev nD => iprop((bigSep Finset.univ fun k => iprop(∃ κ : ℕ, cellInv ER (gather m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  have hG : ∀ (K : Dev nD × CellIx → ℕ) (c : Dev nD), iprop(records m ρ K ∗ linear c) ⊢ G' m ρ c := fun K c => by
    unfold G'; iintro H; iexists K; iexact H
  rw [bigSep_sep', bigSep_sep', ← bigSep_univ_prod (fun ck : Dev nD × CellIx => iprop(∃ κ : ℕ, cellInv ER (gather m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (gather m ρ) κ (kcell ck) : sProp 𝕄))) $$ HI
  icases HK with ⟨%K, #HI⟩
  ihave Htk := (toks_around (F := F)) $$ Htok
  iapply (share_out (R := records m ρ K) (hG K))
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem bar_eq_iff {a b : Dev nD} : barCell a = barCell b ↔ a = b :=
  ⟨fun h => congrArg (fun g : GSem nD τ sig => g.1.1) h, fun h => h ▸ rfl⟩
theorem recv_eq_iff {a b : Dev nD} {s t : Fin 15} : recvCell a s = recvCell b t ↔ a = b ∧ s = t :=
  ⟨fun h => ⟨congrArg (fun g : GSem nD τ sig => g.1.1) h, recvS_inj (SemLoc.dma.inj (congrArg Prod.snd h))⟩, fun h => by rw [h.1, h.2]⟩

/-- Summed over the slots, what only slot `s` gives. -/
theorem slots_pick (s : Fin 15) (n : ℕ) : (slots.map fun t => if t = s then n else 0).sum = n := by
  fin_cases s <;> simp [slots]

/-- What `owedR` owes a receive cell, and that it owes barrier cells nothing; the reverse for `owedB`. -/
theorem owedR_recv (d c : Dev nD) (s : Fin 15) (l : List (Fin 15)) :
    owedR d l (recvCell c s) () = (l.map fun t => if d = bwd c s ∧ t = s then N else 0).sum := by
  induction l with
  | nil => rfl
  | cons t l ih =>
    rw [owedR_cons, Pi.add_apply, Finsupp.add_apply, ih, tallyAt_apply, List.map_cons, List.sum_cons, Nat.add_comm]
    congr 1
    refine if_congr ?_ rfl rfl
    constructor
    · rintro ⟨h, -⟩
      obtain ⟨h1, h2⟩ := recv_eq_iff.mp h
      subst h2
      exact ⟨by rw [h1, bwd_fwd], rfl⟩
    · rintro ⟨rfl, rfl⟩
      exact ⟨by rw [fwd_bwd], rfl⟩
theorem owedB_bar (d c : Dev nD) (l : List (Fin 15)) :
    owedB d l (barCell c) () = (l.map fun t => if d = bwd c t then 1 else 0).sum := by
  induction l with
  | nil => rfl
  | cons t l ih =>
    rw [owedB_cons, Pi.add_apply, Finsupp.add_apply, ih, tallyAt_apply, List.map_cons, List.sum_cons, Nat.add_comm]
    congr 1
    refine if_congr ?_ rfl rfl
    constructor
    · rintro ⟨h, -⟩
      rw [bar_eq_iff.mp h, bwd_fwd]
    · rintro rfl
      exact ⟨by rw [fwd_bwd], rfl⟩
theorem owedR_bar (d c : Dev nD) (l : List (Fin 15)) : owedR d l (barCell c) () = 0 := by
  by_contra h
  obtain ⟨e, s, he⟩ := owedR_pos (Nat.pos_of_ne_zero h)
  cases congrArg Prod.snd he
theorem owedB_recv (d c : Dev nD) (s : Fin 15) (l : List (Fin 15)) : owedB d l (recvCell c s) () = 0 := by
  by_contra h
  obtain ⟨e, he⟩ := owedB_pos (Nat.pos_of_ne_zero h)
  cases congrArg Prod.snd he

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same,
    Finset.sum_congr rfl fun d _ => show O₀ d (barCell c) () = (slots.map fun t => if d = bwd c t then 1 else 0).sum by
      unfold O₀; rw [Pi.add_apply, Finsupp.add_apply, owedR_bar, owedB_bar, Nat.zero_add]]
  revert c; decide +kernel

theorem launch_recv (c : Dev nD) (s : Fin 15) :
    tallyOn (recvCell c s) (launchCredit (Pipeline.owing O₀) 0 (recvCell c s)) = (tallyAt (recvCell c s) () N : CellTallies nD τ sig Unit) := by
  unfold tallyAt; refine congrArg _ (Finsupp.ext fun u => ?_); cases u
  have h : ∀ d : Dev nD, O₀ d (recvCell c s) () = if d = bwd c s then N else 0 := fun d => by
    unfold O₀; rw [Pi.add_apply, Finsupp.add_apply, owedB_recv, owedR_recv, Nat.add_zero]
    by_cases hd : d = bwd c s
    · rw [if_pos hd]
      simp only [hd, true_and]
      exact slots_pick s N
    · rw [if_neg hd]
      simp [hd]
  rw [Pipeline.launchCredit_owing, Finsupp.single_eq_same, Finset.sum_congr rfl fun d _ => h d, Finset.sum_ite_eq' Finset.univ (bwd c s) fun _ => N,
    if_pos (Finset.mem_univ _)]

/-- The receive semaphores. -/
def recvAt : Fin 15 ↪ SemLoc sig := ⟨fun s => .dma (recvS s), fun _ _ h => recvS_inj (SemLoc.dma.inj h)⟩

/-- The credit a device starts with. -/
theorem creds (c : Dev nD) :
    (Pipeline.launchCred O₀ c : sProp 𝕄) ⊢ iprop(cred (tallyAt (barCell c) () 15) ∗ bigSep Finset.univ fun s : Fin 15 => cred (tallyAt (recvCell c s) () N)) := by
  unfold Pipeline.launchCred
  rw [bigSep_univ_at _ (SemLoc.reg barS), launch_bar]
  have hin : Finset.univ.map recvAt ⊆ Finset.univ.erase (SemLoc.reg barS : SemLoc sig) := fun x hx => by
    obtain ⟨s, -, rfl⟩ := Finset.mem_map.mp hx
    exact Finset.mem_erase.mpr ⟨fun h => (by cases h), Finset.mem_univ _⟩
  refine sep_mono_right ((BI.bigSep_subset hin).trans ?_)
  rw [bigSep_map]
  exact bigSep_mono fun s _ => Entails.of_eq (congrArg cred (launch_recv c s))

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscoped_bar]
  unfold Φ₁ Pipeline.ownSems0
  iintro ⟨Hl, Hg, Hz, HzB⟩
  isplitl [HzB]; · iexact HzB
  isplitl [Hz]; · iexact Hz
  isplitl [Hl] <;> iassumption

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The windows' arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On sixteen devices, from any memory with all semaphores at zero, every weakly fair execution of the program ends, with
    the arrays at `finalA` and all semaphores at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund_gather m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held; -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof

end
-- ==== Proof.KernelIdeal.Run.lean ====
/-
What the run of the whole program leaves: the argument as it was, the result at `outOf`, a function of the devices' blocks.
-/
module

public import proofs.«01_k».proof.Proof.KernelIdeal.Launch

@[expose] public section

noncomputable section

namespace Cert.KernelIdealProof

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

variable {F : FTy → Type} [FloatOps F]

/-! ## The result as a function of the blocks -/

/-- The two rows that device `c` makes of its block `x`. -/
def rowsOf (c : Dev nD) (x : FVec F S512x512 .f32) : FVec F S2x512 .f32 := k0_pay5 (k0_pay4 (pos c) x)

/-- What device `c` gathers of the blocks `X`: in slot `s` the two rows of `bwd c s`. -/
def gatherOf (X : Dev nD → FVec F S512x512 .f32) (c : Dev nD) : FVec F S15x2x512 .f32 :=
  fun i => rowsOf (bwd c (i 0)) (X (bwd c (i 0))) (ix2 (i 1) (i 2))

/-- The result on device `c`, of the blocks `X`. -/
def outOf (X : Dev nD → FVec F S512x512 .f32) (c : Dev nD) : FVec F S2x512 .f32 :=
  k0_pay6 (k0_pay2 (X c)) (k0_pay3 (pos c) (X c)) (gatherOf X c)

variable (m : (ℓ : Loc nD τ sig) → Buf (Elt F) ℓ) (ρ : Dev nD → PrngReg)

/-- The staged block is the argument's buffer; -/
theorem xstg_eq (c : Dev nD) : xstg m ρ c = m ((c : Thread nD τ).loc main_arg0) :=
  Memref.read_access_unit_zero (Elt F) main_arg0 (funext fun a => by fin_cases a <;> rfl) (fun a => by fin_cases a <;> decide) _

/-- and the result's array, written back whole, holds what the body left. -/
theorem finalA_out (c : Dev nD) : finalA m ρ c (1 : Fin 2) = outAt m ρ c := by
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from flush0_1 t₀, if_pos rfl]
    exact View.read_write_univ _ _
  exact (Memref.read_access_unit_zero (Elt F) main_v1 (funext fun a => by fin_cases a <;> rfl) (fun a => by fin_cases a <;> decide) _).symm.trans h

theorem outAt_eq (c : Dev nD) : outAt m ρ c = outOf (fun d => m ((d : Thread nD τ).loc main_arg0)) c := by
  unfold outAt outOf landed gatherOf msg rowsOf
  simp only [xstg_eq]; rfl

/-- **The run**: on sixteen devices, from any memory with all semaphores at zero, every execution ends, and then on each
    device the result is `outOf` of the devices' arguments, the argument is as it was and all semaphores are at zero. -/
theorem run_out : θ_run defs (onTc (τ := τ) (main (F := F))) (s₀ m ρ) (fun r =>
    (∀ c : Dev nD, r.2.mem ((c : Thread nD τ).loc main_v1) = outOf (fun d => m ((d : Thread nD τ).loc main_arg0)) c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans ((finalA_out m ρ c).trans (outAt_eq m ρ c)),
    (h.1 c (0 : Fin 2)).trans (finalA_x m ρ c)⟩, h.2⟩) (run_main m ρ)

end Cert.KernelIdealProof

end
-- ==== Proof.Reference.Run.lean ====
/-
The run of the reference: its host operations in order, and what they leave in the result's buffer.
-/
module

public import proofs.«01_k».proof.Proof.Gen.ReferenceIdeal
public import Idealize.ShloMosaic.Lib.StableHlo.RunHlo

@[expose] public section

noncomputable section

namespace Cert.ReferenceProof

open Cert.ReferenceIdeal Cert.ReferenceIdeal.Gen
open Idealize.ShloMosaic Idealize.ShloMosaic.TcCoe Idealize.ShloMosaic.StableHlo Idealize.SL.Sem

variable {F : FTy → Type} [FloatOps F]

/-- Every column's maximum; -/
def colMax (x : FVec F S8192x512 .f32) : FVec F S512 .f32 :=
  Host.reduce FloatOps.maximumf x (constant S_ .f32 0xFF800000#32) reducesTo_S8192x512_S512_d0 h_S_

/-- the row where it is first attained; -/
def colArg (x : FVec F S8192x512 .f32) : IVec S512 32 := fun j =>
  (Host.argReduce reducer_argmax_f32_i32 x (iotaInDim S8192x512 32 0) (constant S_ .f32 0xFF800000#32) (constantI S_ 32 0#32)
    reducesTo_S8192x512_S512_d0 h_S_ j).2

/-- and the two as the rows of one array: the reference's result. -/
def refOut (x : FVec F S8192x512 .f32) : FVec F S2x512 .f32 :=
  concatenate S2x512 0 [⟨S1x512, broadcastInDim S1x512 ![1] bcast_S512_S1x512_1 (colMax x)⟩,
    ⟨S1x512, broadcastInDim S1x512 ![1] bcast_S512_S1x512_1 (sitofp .f32 (colArg x))⟩] concatenates_S1x512_S1x512_S2x512_d0

theorem refs_unscoped : (Finset.univ.filter fun b : Ref sig .tc => b.isScoped) = ∅ := by decide
theorem sems_unscoped : (Finset.univ.filter fun sm : SemLoc sig => sm.isScoped .tc) = ∅ := by decide

/-- The operations, in order: the five of the call, then those of the program itself. -/
abbrev ops : List (HloOp τ sig (Elt F)) :=
  [ nullary main_call0_v0 (iotaInDim S8192x512 32 0),
    nullary main_call0_cst (constant S_ .f32 0xFF800000#32),
    nullary main_call0_c (constantI S_ 32 0#32),
    quaternary main_arg0 main_call0_v0 main_call0_cst main_call0_c main_call0_v1_0
      (fun x y u v j => (Host.argReduce reducer_argmax_f32_i32 x y u v reducesTo_S8192x512_S512_d0 h_S_ j).1),
    quaternary main_arg0 main_call0_v0 main_call0_cst main_call0_c main_v0
      (fun x y u v j => (Host.argReduce reducer_argmax_f32_i32 x y u v reducesTo_S8192x512_S512_d0 h_S_ j).2),
    unary main_v0 main_v1 (sitofp .f32),
    nullary main_cst (constant S_ .f32 0xFF800000#32),
    binary main_arg0 main_cst main_v2 (fun x v => Host.reduce FloatOps.maximumf x v reducesTo_S8192x512_S512_d0 h_S_),
    unary main_v2 main_v3 (broadcastInDim S1x512 ![1] bcast_S512_S1x512_1),
    unary main_v1 main_v4 (broadcastInDim S1x512 ![1] bcast_S512_S1x512_1),
    binary main_v3 main_v4 main_v5 (fun a b => concatenate S2x512 0 [⟨S1x512, a⟩, ⟨S1x512, b⟩] concatenates_S1x512_S1x512_S2x512_d0) ]

/-- The program is that list. -/
theorem main_eq (c : Dev nD) : main (F := F) c = seq ops := rfl

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., binary_bufs_sub ..⟩

/-- What the list leaves in the result's buffer, and that it leaves the argument. -/
theorem out_eq (V : Valuation τ sig (Elt F)) : after ops V (main_v5 : DevRef τ sig) = refOut (V (main_arg0 : DevRef τ sig)) := by
  after_results
  rfl
theorem arg_eq (V : Valuation τ sig (Elt F)) : after ops V (main_arg0 : DevRef τ sig) = V (main_arg0 : DevRef τ sig) := by
  after_results

/-- **The run**: from any memory with all semaphores at zero every execution ends, with the result's buffer at `refOut` of
    the argument and the argument as it was. -/
theorem run_ref (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v5) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v5).trans (out_eq _), (h c main_arg0).trans (arg_eq _)⟩)
    (run_seq refs_unscoped sems_unscoped defs main (fun _ => ops) main_eq (fun _ => ops_sub) m ρ)

end Cert.ReferenceProof

end
-- ==== Proof.Value.FirstMax.lean ====
/-
The largest value of a finite family of extended reals and the first place it stands in: that they exist, that they are
unique, what the folds by `max` and `min` have to do with them, and how those of a long family come from those of its
blocks.
-/
module

public import Idealize.ShloMosaic.PureOps.Reduce
public import Idealize.ShloMosaic.PureOps.Ideal

@[expose] public section

noncomputable section

namespace Cert.Columns

open Idealize.ShloMosaic

/-- `v` is the largest value of `f`, and `k` the first place it stands in. -/
structure FirstMax {n : ℕ} (f : Fin n → EReal) (v : EReal) (k : Fin n) : Prop where
  here : f k = v
  le : ∀ r, f r ≤ v
  first : ∀ r, f r = v → k ≤ r

/-- A family that is not empty has one; -/
theorem exists_firstMax {n : ℕ} [NeZero n] (f : Fin n → EReal) : ∃ v k, FirstMax f v k := by
  obtain ⟨r₀, h₀⟩ := Finite.exists_max f
  obtain ⟨k, hk, hmin⟩ := (Finset.univ.filter fun r => f r = f r₀).exists_min_image id ⟨r₀, by simp⟩
  exact ⟨f r₀, k, (Finset.mem_filter.mp hk).2, h₀, fun r hr => hmin r (by simp [hr])⟩

/-- The fold by `max` from below everything is the largest value. -/
theorem FirstMax.fold_max {n : ℕ} {f : Fin n → EReal} {v : EReal} {k : Fin n} (h : FirstMax f v k) :
    Finset.univ.fold max ⊥ f = v :=
  le_antisymm ((Finset.fold_max_le v).mpr ⟨bot_le, fun r _ => h.le r⟩) ((Finset.le_fold_max v).mpr (.inr ⟨k, Finset.mem_univ _, h.here.ge⟩))

/-- The fold by `min` over the places where `p` holds, of a value that is the least of them at a place where `p` holds. -/
theorem fold_min_where {n : ℕ} {α : Type} [LinearOrder α] (p : Fin n → Prop) [DecidablePred p] (g : Fin n → α) {a big init : α}
    (hat : ∃ r, p r ∧ g r = a) (hle : ∀ r, p r → a ≤ g r) (hbig : a ≤ big) (hinit : a ≤ init) :
    Finset.univ.fold min init (fun r => if p r then g r else big) = a := by
  obtain ⟨r, hr, hg⟩ := hat
  refine le_antisymm ((Finset.fold_min_le a).mpr (.inr ⟨r, Finset.mem_univ _, ?_⟩)) ((Finset.le_fold_min a).mpr ⟨hinit, fun q _ => ?_⟩)
  · rw [if_pos hr, hg]
  · split
    · exact hle q ‹_›
    · exact hbig

/-- The fold of words by their signed minimum, read as integers, is the fold by `min` of what they read as. -/
theorem toInt_fold_minsi {n : ℕ} (b : BitVec 32) (f : Fin n → BitVec 32) :
    (Finset.univ.fold IKind.minsi.op b f).toInt = Finset.univ.fold min b.toInt fun r => (f r).toInt := by
  refine (Finset.fold_hom (op := IKind.minsi.op) (op' := min) (m := BitVec.toInt) fun x y => ?_).symm
  show (IntOp.minsi x y).toInt = min x.toInt y.toInt
  unfold IntOp.minsi
  simp only [BitVec.slt, decide_eq_true_eq]
  split <;> omega

/-! ## Blocks -/

/-- Row `r` of block `d` in the whole array. -/
def rowAt (d : Fin 16) (r : Fin 512) : Fin 8192 := ⟨d.val * 512 + r.val, by omega⟩

/-- Every row of the whole array is a row of a block. -/
theorem exists_rowAt (k : Fin 8192) : ∃ d r, rowAt d r = k :=
  ⟨⟨k.val / 512, by omega⟩, ⟨k.val % 512, by omega⟩, Fin.ext (by show k.val / 512 * 512 + k.val % 512 = k.val; omega)⟩

variable {f : Fin 8192 → EReal} {V : EReal} {K : Fin 8192} {v : Fin 16 → EReal} {k : Fin 16 → Fin 512}

/-- No block's largest value exceeds the whole array's; -/
theorem block_le (h : FirstMax f V K) (hb : ∀ d, FirstMax (fun r => f (rowAt d r)) (v d) (k d)) (d : Fin 16) : v d ≤ V := by
  rw [← (hb d).here]; exact h.le _

/-- in a block that attains it, the block's first place is not before the whole array's; -/
theorem block_first (h : FirstMax f V K) (hb : ∀ d, FirstMax (fun r => f (rowAt d r)) (v d) (k d)) (d : Fin 16) (hd : v d = V) :
    K ≤ rowAt d (k d) := h.first _ ((hb d).here.trans hd)

/-- and some block attains it, with its first place the whole array's. -/
theorem exists_block (h : FirstMax f V K) (hb : ∀ d, FirstMax (fun r => f (rowAt d r)) (v d) (k d)) :
    ∃ d, v d = V ∧ rowAt d (k d) = K := by
  obtain ⟨d, r, hK⟩ := exists_rowAt K
  have hv : v d = V := le_antisymm (block_le h hb d) (by rw [← h.here, ← hK]; exact (hb d).le r)
  refine ⟨d, hv, le_antisymm ?_ (block_first h hb d hv)⟩
  rw [← hK]
  have hr : k d ≤ r := (hb d).first r (by show f (rowAt d r) = v d; rw [hK, h.here, hv])
  show (rowAt d (k d)).val ≤ (rowAt d r).val
  simp only [rowAt]
  have : (k d).val ≤ r.val := hr
  omega

end Cert.Columns

end
-- ==== Proof.Value.Columns.lean ====
/-
Reading the operations both programs use, entry by entry, on arrays with one column per entry: a reduction down the
columns, the constants the folds start from.
-/
module

public import proofs.«01_k».proof.Proof.Value.FirstMax
public import Idealize.ShloMosaic.Lib.ValueLayout
public import Idealize.ShloMosaic.PureOps.Ideal.Laws

@[expose] public section

noncomputable section

namespace Cert.Columns

open Idealize.ShloMosaic Idealize.ShloMosaic.ValueIdx

/-- The constants: −∞, +∞, and one that exceeds every row number. -/
theorem neg_inf : Ideal.ofBits .f32 0xFF800000#32 = ⊥ := by simp [Ideal.ofBits, Ideal.ieee]
theorem pos_inf : Ideal.ofBits .f32 0x7F800000#32 = ⊤ := by simp [Ideal.ofBits, Ideal.ieee]
theorem row_le_big (k : Fin 8192) : ((k.val : ℝ) : EReal) ≤ Ideal.ofBits .f32 0x7F7FC99E#32 := by
  have hk : (k.val : ℝ) ≤ 8192 := by exact_mod_cast k.isLt.le
  refine le_trans (EReal.coe_le_coe_iff.mpr hk) ?_
  simp [Ideal.ofBits, Ideal.ieee, -EReal.coe_mul]
  norm_num

/-- Column `j`'s entry of row `k`, as a reduction down the columns of an `m` by `n` array names it. -/
theorem down_eq {m n : ℕ} (h : (⟨2, ![m, n]⟩ : Shape).Reduces [0] ⟨1, ![n]⟩) (j : Fin n) (k : Fin m) :
    h.lift (ix1 j) k = ix2 k j := by
  funext a
  refine Fin.ext ?_
  match a with
  | ⟨0, _⟩ => rfl
  | ⟨1, _⟩ => rfl

variable {m n : ℕ} (h : (⟨2, ![m, n]⟩ : Shape).Reduces [0] ⟨1, ![n]⟩) (j : Fin n)

/-- The maximum down column `j`, from −∞. -/
theorem max_down (x : FVec Ideal ⟨2, ![m, n]⟩ .f32) {v : EReal} {k : Fin m} (hx : FirstMax (fun r => x (ix2 r j)) v k) :
    multiReduction .maximumf [0] ⟨1, ![n]⟩ x 0xFF800000#32 h (.inl rfl) rfl (ix1 j) = v := by
  refine (Ideal.multiReduction_maximumf_single x _ h _ _ (ix1 j)).trans ?_
  rw [Ideal.ofBits_def, neg_inf, ← hx.fold_max]
  exact congrArg (fun f => Finset.fold max ⊥ f Finset.univ) (funext fun r => congrArg x (down_eq h j r))

/-- The minimum down column `j`, from +∞. -/
theorem min_down (x : FVec Ideal ⟨2, ![m, n]⟩ .f32) :
    multiReduction .minimumf [0] ⟨1, ![n]⟩ x 0x7F800000#32 h (.inl rfl) rfl (ix1 j)
      = Finset.univ.fold min ⊤ fun r : Fin m => (x (ix2 r j) : EReal) := by
  refine (multiReduction_minimumf_eq_fold x _ h _ _ (ix1 j)).trans ?_
  rw [Ideal.ofBits_def, pos_inf]
  refine (h.fold_filter_drop_single _ _ x (ix1 j)).trans ?_
  exact congrArg (fun f => Finset.fold min ⊤ f Finset.univ) (funext fun r => congrArg x (down_eq h j r))

/-- The signed minimum down column `j` of words, read as an integer. -/
theorem minsi_down (x : IVec ⟨2, ![m, n]⟩ 32) :
    (multiReductionI .minsi [0] ⟨1, ![n]⟩ x 2147483647#32 h rfl (ix1 j)).toInt
      = Finset.univ.fold min 2147483647 fun r : Fin m => (x (ix2 r j)).toInt := by
  refine (congrArg BitVec.toInt ((multiReductionI_eq_fold .minsi x _ h _ (ix1 j)).trans (h.fold_filter_drop_single _ _ x (ix1 j)))).trans ?_
  refine (toInt_fold_minsi (n := m) _ _).trans ?_
  exact congrArg (fun f => Finset.fold min 2147483647 f Finset.univ) (funext fun r => congrArg (fun i => (x i).toInt) (down_eq h j r))

/-- A comparison for equality selects as the equality decides. -/
theorem select_oeq {α : Type} (a b : Ideal .f32) (x y : α) : Scalar.select (FloatOps.cmpf .oeq a b) x y = if a = b then x else y := by
  show (if Ideal.cmp .oeq a b = 1#1 then x else y) = _
  by_cases hab : a = b <;> simp [Ideal.cmp, hab]

end Cert.Columns

end
-- ==== Proof.Value.Local.lean ====
/-
What one device makes of its block: in row 0 every column's largest value, in row 1 the row of the whole array in which
the block first attains it.
-/
module

public import proofs.«01_k».proof.Proof.Value.Columns
public import proofs.«01_k».proof.Proof.KernelIdeal.Run

@[expose] public section

noncomputable section

namespace Cert.Columns

open Cert.KernelIdeal Cert.KernelIdeal.Gen Cert.KernelIdealProof
open Idealize.ShloMosaic Idealize.ShloMosaic.ValueIdx

variable (c : Dev nD) (x : FVec Ideal S512x512 .f32) {j : Fin 512} {v : EReal} {k : Fin 512}

/-- Two rows stacked, read in row 0 and in row 1. -/
theorem stack_zero (a b : FVec Ideal S1x512 .f32) :
    concatenate S2x512 0 [⟨S1x512, a⟩, ⟨S1x512, b⟩] concatenates_S1x512_S1x512_S2x512_d0 (ix2 0 j) = a (ix2 0 j) :=
  concatenate_pair_apply_left 0 a b concatenates_S1x512_S1x512_S2x512_d0 (ix2 0 j) rfl (ix2 0 j) fun i => by fin_cases i <;> rfl
theorem stack_one (a b : FVec Ideal S1x512 .f32) :
    concatenate S2x512 0 [⟨S1x512, a⟩, ⟨S1x512, b⟩] concatenates_S1x512_S1x512_S2x512_d0 (ix2 1 j) = b (ix2 0 j) :=
  concatenate_pair_apply_right 0 a b concatenates_S1x512_S1x512_S2x512_d0 (ix2 1 j) rfl rfl (ix2 0 j) (fun i hi => by fin_cases i <;> first | rfl | exact absurd rfl hi) rfl

theorem block_cast : k0_pay1 x = x := shapeCast_self _ _

/-- Every column's largest value in the block. -/
theorem local_max (hx : FirstMax (fun r => x (ix2 r j)) v k) : k0_pay2 (F := Ideal) x (ix2 0 j) = v := by
  unfold k0_pay2
  rw [block_cast]
  exact (shapeCast_a_1a_apply _ _ 0 j).trans (max_down _ j x hx)

/-- What the device adds to its rows' numbers: the number of the block's first row. -/
theorem first_row (c : Dev nD) : (Scalar.muli (pos c) 512#32).toInt = c.val * 512 := by
  revert c; decide +kernel

/-- A small sum of words reads as the sum. -/
theorem toInt_addi {a b : BitVec 32} {p q : ℕ} (ha : a.toInt = p) (hb : b.toInt = q) (h : p + q < 2 ^ 31) : (IntOp.addi a b).toInt = q + p := by
  show (a + b).toInt = _
  rw [BitVec.toInt_add, ha, hb, Int.bmod_eq_of_le] <;> omega

/-- The row, of the whole array, in which the block first attains it. -/
theorem local_arg (hx : FirstMax (fun r => x (ix2 r j)) v k) :
    k0_pay3 (F := Ideal) (pos c) x (ix2 0 j) = (((rowAt c k).val : ℝ) : EReal) := by
  unfold k0_pay3
  have hsel : ∀ r : Fin 512, (select (cmpf .oeq (k0_pay1 (F := Ideal) x) (broadcastTo S512x512 (k0_pay2 (F := Ideal) x) broadcasts_S1x512_S512x512))
      (iota .tc S512x512 32 [0] iota_S512x512_d0_w32) (broadcast S512x512 512#32) (ix2 r j)).toInt
      = if x (ix2 r j) = v then (r.val : ℤ) else 512 := fun r => by
    have hb : broadcastTo S512x512 (k0_pay2 (F := Ideal) x) broadcasts_S1x512_S512x512 (ix2 r j) = v :=
      (broadcastTo_1b_ab_apply _ _ r j).trans (local_max x hx)
    have hi : iota .tc S512x512 32 [0] iota_S512x512_d0_w32 (ix2 r j) = BitVec.ofNat 32 r.val := iota_single_apply _ _ _ _ _ _
    show (Scalar.select (FloatOps.cmpf .oeq (k0_pay1 (F := Ideal) x (ix2 r j)) (broadcastTo S512x512 (k0_pay2 (F := Ideal) x) broadcasts_S1x512_S512x512 (ix2 r j)))
      (iota .tc S512x512 32 [0] iota_S512x512_d0_w32 (ix2 r j)) 512#32).toInt = _
    rw [hb, hi, block_cast, select_oeq]
    split
    · rw [BitVec.toInt_ofNat', Int.bmod_eq_of_le] <;> omega
    · rfl
  have hk := (minsi_down reduces_S512x512_S512 j (select (cmpf .oeq (k0_pay1 (F := Ideal) x) (broadcastTo S512x512 (k0_pay2 (F := Ideal) x) broadcasts_S1x512_S512x512))
      (iota .tc S512x512 32 [0] iota_S512x512_d0_w32) (broadcast S512x512 512#32))).trans <|
    (congrArg (fun f => Finset.fold min (2147483647 : ℤ) f Finset.univ) (funext hsel)).trans <|
    fold_min_where (fun r => x (ix2 r j) = v) (fun r => (r.val : ℤ)) (a := (k.val : ℤ)) ⟨k, hx.here, rfl⟩
      (fun r hr => Int.ofNat_le.mpr (hx.first r hr)) (by have := k.isLt; omega) (by have := k.isLt; omega)
  have hsum := toInt_addi (p := k.val) (q := c.val * 512)
    ((congrArg BitVec.toInt (shapeCast_a_1a_apply _ shapeCasts_S512_S1x512 0 j)).trans hk) ((first_row c).trans (by push_cast; rfl))
    (by have := k.isLt; have : c.val < 16 := c.isLt; omega)
  refine Eq.trans (congrArg (fun z : ℤ => ((z : ℝ) : EReal)) hsum) ?_
  show (((((c.val * 512 : ℕ) : ℤ) + (k.val : ℤ) : ℤ) : ℝ) : EReal) = (((c.val * 512 + k.val : ℕ) : ℝ) : EReal)
  push_cast
  rfl

/-- The two rows a device sends. -/
theorem rows_eq (c : Dev nD) (x : FVec Ideal S512x512 .f32) : rowsOf (F := Ideal) c x =
    concatenate S2x512 0 [⟨S1x512, k0_pay2 x⟩, ⟨S1x512, k0_pay3 (pos c) x⟩] concatenates_S1x512_S1x512_S2x512_d0 :=
  shapeCast_self (k0_pay4 (F := Ideal) (pos c) x) shapeCasts_S2x512_S2x512
theorem rows_zero (hx : FirstMax (fun r => x (ix2 r j)) v k) : rowsOf (F := Ideal) c x (ix2 0 j) = v := by
  rw [rows_eq]
  exact (stack_zero _ _).trans (local_max x hx)
theorem rows_one (hx : FirstMax (fun r => x (ix2 r j)) v k) :
    rowsOf (F := Ideal) c x (ix2 1 j) = (((rowAt c k).val : ℝ) : EReal) := by
  rw [rows_eq]
  exact (stack_one _ _).trans (local_arg c x hx)

end Cert.Columns

end
-- ==== Proof.Value.Merge.lean ====
/-
What a device makes of the rows it holds at the end: its own two and the fifteen pairs it was sent.
-/
module

public import proofs.«01_k».proof.Proof.Value.Local

@[expose] public section

noncomputable section

namespace Cert.Columns

open Cert.KernelIdeal Cert.KernelIdeal.Gen Cert.KernelIdealProof
open Idealize.ShloMosaic Idealize.ShloMosaic.ValueIdx

/-! ## Sixteen rows, of a device's own and of its gather buffer -/

/-- The device whose row stands in place `p` on device `c`: its own first, then the slots' in order. -/
def holder (c : Dev nD) (p : Fin 16) : Dev nD := Fin.cases c (bwd c) p

/-- Every device's row stands somewhere. -/
theorem holder_onto : ∀ c d : Dev nD, ∃ p, holder c p = d := by decide +kernel

/-- Row `a` of every slot of the gather buffer, one row a slot. -/
theorem slots_at (y : FVec Ideal S15x2x512 .f32) (a : Fin 2) (h : S15x2x512.Slices ![0, a.val, 0] S15x1x512) (s : Fin 15) (j : Fin 512) :
    shapeCast S15x512 (extractStridedSlice S15x1x512 ![0, a.val, 0] y h) shapeCasts_S15x1x512_S15x512 (ix2 s j) = y (ix3 s a j) := by
  refine (shapeCast_apply _ shapeCasts_S15x1x512_S15x512 (ix2 s j) (ix3 s (0 : Fin 1) j) ?_).trans
    (extractStridedSlice_apply _ y h _ (ix3 s a j) fun b => ?_)
  · rw [Shape.rowMajor_val_two, Shape.rowMajor_val_three]
    show (s.val * 1 + 0) * 512 + j.val = s.val * 512 + j.val
    omega
  · match b with
    | ⟨0, _⟩ => exact (Nat.zero_add _).symm
    | ⟨1, _⟩ => rfl
    | ⟨2, _⟩ => exact (Nat.zero_add _).symm

/-- A row above fifteen more, read in the first place and in the places after it. -/
theorem own_at (a : FVec Ideal S1x512 .f32) (b : FVec Ideal S15x512 .f32) (j : Fin 512) :
    concatenate S16x512 0 [⟨S1x512, a⟩, ⟨S15x512, b⟩] concatenates_S1x512_S15x512_S16x512_d0 (ix2 (0 : Fin 16) j) = a (ix2 0 j) :=
  concatenate_pair_apply_left 0 a b concatenates_S1x512_S15x512_S16x512_d0 (ix2 (0 : Fin 16) j) rfl (ix2 0 j)
    fun i => by fin_cases i <;> rfl
theorem sent_at (a : FVec Ideal S1x512 .f32) (b : FVec Ideal S15x512 .f32) (s : Fin 15) (j : Fin 512) :
    concatenate S16x512 0 [⟨S1x512, a⟩, ⟨S15x512, b⟩] concatenates_S1x512_S15x512_S16x512_d0 (ix2 s.succ j) = b (ix2 s j) :=
  concatenate_pair_apply_right 0 a b concatenates_S1x512_S15x512_S16x512_d0 (ix2 s.succ j) rfl rfl (ix2 s j)
    (fun i hi => by fin_cases i <;> first | rfl | exact absurd rfl hi) rfl

variable (X : Dev nD → FVec Ideal S512x512 .f32) (c : Dev nD)

/-- The sixteen rows of values; -/
def vals : FVec Ideal S16x512 .f32 :=
  concatenate S16x512 0 [⟨S1x512, k0_pay2 (F := Ideal) (X c)⟩,
    ⟨S15x512, shapeCast S15x512 (extractStridedSlice S15x1x512 ![0, 0, 0] (gatherOf (F := Ideal) X c) slices_S15x2x512_o0_0_0_S15x1x512)
      shapeCasts_S15x1x512_S15x512⟩] concatenates_S1x512_S15x512_S16x512_d0

/-- the sixteen rows of places. -/
def places : FVec Ideal S16x512 .f32 :=
  concatenate S16x512 0 [⟨S1x512, k0_pay3 (F := Ideal) (pos c) (X c)⟩,
    ⟨S15x512, shapeCast S15x512 (extractStridedSlice S15x1x512 ![0, 1, 0] (gatherOf (F := Ideal) X c) slices_S15x2x512_o0_1_0_S15x1x512)
      shapeCasts_S15x1x512_S15x512⟩] concatenates_S1x512_S15x512_S16x512_d0

/-- The largest of the values, in every column; -/
def best : FVec Ideal S1x512 .f32 :=
  shapeCast S1x512 (multiReduction .maximumf [0] S512 (vals X c) 0xFF800000#32 reduces_S16x512_S512 (.inl rfl) rfl) shapeCasts_S512_S1x512

/-- the places where it stands, and a large number elsewhere; -/
def marked : FVec Ideal S16x512 .f32 :=
  select (cmpf .oeq (vals X c) (broadcastTo S16x512 (best X c) broadcasts_S1x512_S16x512)) (places X c)
    (broadcast S16x512 (Scalar.ofBits (F := Ideal) .f32 0x7F7FC99E#32))

/-- the least of those. -/
def first : FVec Ideal S1x512 .f32 :=
  shapeCast S1x512 (multiReduction .minimumf [0] S512 (marked X c) 0x7F800000#32 reduces_S16x512_S512 (.inl rfl) rfl) shapeCasts_S512_S1x512

/-- The result is those two rows. -/
theorem outOf_eq : outOf (F := Ideal) X c
    = concatenate S2x512 0 [⟨S1x512, best X c⟩, ⟨S1x512, first X c⟩] concatenates_S1x512_S1x512_S2x512_d0 := rfl

/-! ## What they hold -/

variable {X} {j : Fin 512} {v : Fin 16 → EReal} {k : Fin 16 → Fin 512}

theorem vals_at (hX : ∀ d : Dev nD, FirstMax (fun r => X d (ix2 r j)) (v d) (k d)) (p : Fin 16) :
    vals X c (ix2 p j) = v (holder c p) := by
  refine Fin.cases ?_ (fun s => ?_) p
  · exact (own_at _ _ j).trans (local_max _ (hX c))
  · exact (sent_at _ _ s j).trans ((slots_at _ 0 _ s j).trans (rows_zero (bwd c s) _ (hX (bwd c s))))

theorem places_at (hX : ∀ d : Dev nD, FirstMax (fun r => X d (ix2 r j)) (v d) (k d)) (p : Fin 16) :
    places X c (ix2 p j) = (((rowAt (holder c p) (k (holder c p))).val : ℝ) : EReal) := by
  refine Fin.cases ?_ (fun s => ?_) p
  · exact (own_at _ _ j).trans (local_arg c _ (hX c))
  · exact (sent_at _ _ s j).trans ((slots_at _ 1 _ s j).trans (rows_one (bwd c s) _ (hX (bwd c s))))

variable {f : Fin 8192 → EReal} {V : EReal} {K : Fin 8192}

/-- The largest value is the whole column's; -/
theorem best_at (hf : FirstMax f V K) (hfX : ∀ d r, X d (ix2 r j) = f (rowAt d r))
    (hX : ∀ d : Dev nD, FirstMax (fun r => X d (ix2 r j)) (v d) (k d)) : best X c (ix2 0 j) = V := by
  have hb : ∀ d, FirstMax (fun r => f (rowAt d r)) (v d) (k d) := fun d => (funext (hfX d)) ▸ hX d
  obtain ⟨w, q, hw⟩ := exists_firstMax fun p : Fin 16 => (vals X c (ix2 p j) : EReal)
  refine (shapeCast_a_1a_apply _ _ 0 j).trans ((max_down _ j _ hw).trans (le_antisymm ?_ ?_))
  · rw [← hw.here, vals_at c hX]
    exact block_le hf hb _
  · obtain ⟨d, hd, -⟩ := exists_block hf hb
    obtain ⟨p, rfl⟩ := holder_onto c d
    rw [← hd, ← vals_at c hX]
    exact hw.le p

/-- and the least place is the row where the whole column first attains it. -/
theorem first_at (hf : FirstMax f V K) (hfX : ∀ d r, X d (ix2 r j) = f (rowAt d r))
    (hX : ∀ d : Dev nD, FirstMax (fun r => X d (ix2 r j)) (v d) (k d)) : first X c (ix2 0 j) = ((K.val : ℝ) : EReal) := by
  have hb : ∀ d, FirstMax (fun r => f (rowAt d r)) (v d) (k d) := fun d => (funext (hfX d)) ▸ hX d
  have hm : ∀ p : Fin 16, (marked X c (ix2 p j) : EReal) = if v (holder c p) = V
      then (((rowAt (holder c p) (k (holder c p))).val : ℝ) : EReal) else Ideal.ofBits .f32 0x7F7FC99E#32 := fun p => by
    have hbest : broadcastTo S16x512 (best X c) broadcasts_S1x512_S16x512 (ix2 p j) = V :=
      (broadcastTo_1b_ab_apply (best X c) broadcasts_S1x512_S16x512 p j).trans (best_at c hf hfX hX)
    show Scalar.select (FloatOps.cmpf .oeq (vals X c (ix2 p j)) (broadcastTo S16x512 (best X c) broadcasts_S1x512_S16x512 (ix2 p j)))
      (places X c (ix2 p j)) _ = _
    rw [select_oeq, hbest, vals_at c hX, places_at c hX]
    rfl
  have hle : ∀ {a b : Fin 8192}, a ≤ b → ((a.val : ℝ) : EReal) ≤ ((b.val : ℝ) : EReal) := fun h =>
    EReal.coe_le_coe_iff.mpr (Nat.cast_le.mpr h)
  refine (shapeCast_a_1a_apply _ _ 0 j).trans ((min_down _ j _).trans ?_)
  rw [funext hm]
  refine fold_min_where (fun p => v (holder c p) = V) _ ?_ (fun p hp => hle (block_first hf hb _ hp)) (row_le_big K) le_top
  obtain ⟨d, hd, hK⟩ := exists_block hf hb
  obtain ⟨p, rfl⟩ := holder_onto c d
  exact ⟨p, hd, by rw [hK]⟩

/-- So the result on every device: the whole column's largest value and its first row, of any blocks that make the column up. -/
theorem out_at (hf : FirstMax f V K) (hfX : ∀ d r, X d (ix2 r j) = f (rowAt d r)) :
    outOf (F := Ideal) X c (ix2 0 j) = V ∧ outOf (F := Ideal) X c (ix2 1 j) = ((K.val : ℝ) : EReal) := by
  choose v k hX using fun d : Dev nD => exists_firstMax fun r : Fin 512 => (X d (ix2 r j) : EReal)
  rw [outOf_eq]
  exact ⟨(stack_zero _ _).trans (best_at c hf hfX hX), (stack_one _ _).trans (first_at c hf hfX hX)⟩

end Cert.Columns

end
-- ==== Proof.Value.Reference.lean ====
/-
What the reference computes: every column's largest value and the row where the column first attains it.
-/
module

public import proofs.«01_k».proof.Proof.Value.Columns
public import proofs.«01_k».proof.Proof.Reference.Run

@[expose] public section

noncomputable section

namespace Cert.Columns

open Cert.ReferenceIdeal Cert.ReferenceIdeal.Gen Cert.ReferenceProof
open Idealize.ShloMosaic Idealize.ShloMosaic.ValueIdx

/-! ## A fold that keeps the better of two pairs -/

/-- Pair `p` is at least as good as `q`: of a larger value, or of the same value and no later. -/
def Beats (p q : EReal × BitVec 32) : Prop := q.1 < p.1 ∨ (q.1 = p.1 ∧ p.2.toInt ≤ q.2.toInt)

theorem Beats.refl (p : EReal × BitVec 32) : Beats p p := .inr ⟨rfl, le_rfl⟩

theorem Beats.trans {p q r : EReal × BitVec 32} : Beats p q → Beats q r → Beats p r
  | .inl h, .inl h' => .inl (h'.trans h)
  | .inl h, .inr h' => .inl (h'.1 ▸ h)
  | .inr h, .inl h' => .inl (h.1 ▸ h')
  | .inr h, .inr h' => .inr ⟨h'.1.trans h.1, h.2.trans h'.2⟩

/-- A left fold by an operation that keeps the better of its two operands is one of the pairs and at least as good as all. -/
theorem foldl_best (op : EReal × BitVec 32 → EReal × BitVec 32 → EReal × BitVec 32)
    (hop : ∀ a b, (op a b = a ∨ op a b = b) ∧ Beats (op a b) a ∧ Beats (op a b) b) (L : List (EReal × BitVec 32)) :
    ∀ p, (L.foldl op p = p ∨ L.foldl op p ∈ L) ∧ Beats (L.foldl op p) p ∧ ∀ q ∈ L, Beats (L.foldl op p) q := by
  induction L with
  | nil => exact fun p => ⟨.inl rfl, .refl p, fun q hq => absurd hq (List.not_mem_nil)⟩
  | cons b L ih =>
    intro p
    obtain ⟨hin, hp, hL⟩ := ih (op p b)
    obtain ⟨hkeep, hbp, hbb⟩ := hop p b
    refine ⟨?_, hp.trans hbp, fun q hq => ?_⟩
    · rcases hin with h | h
      · rcases hkeep with h' | h'
        · exact .inl (h.trans h')
        · exact .inr (List.mem_cons.mpr (.inl (h.trans h')))
      · exact .inr (List.mem_cons_of_mem _ h)
    · rcases List.mem_cons.mp hq with rfl | hq
      · exact hp.trans hbb
      · exact hL q hq

/-- The body of the reference's reduction keeps its first operand exactly if that is the better. -/
theorem body_eq (a b : EReal × BitVec 32) : reducer_argmax_f32_i32 (F := Ideal) a b
    = if b.1 < a.1 ∨ (a.1 = b.1 ∧ a.2.toInt < b.2.toInt) then a else b := by
  obtain ⟨p, i⟩ := a
  obtain ⟨q, k⟩ := b
  show ((if IntOp.ori (Ideal.cmp .ogt p q) (Ideal.cmp .une p p) = 1#1 then p else q),
    (if IntOp.ori (IntOp.ori (Ideal.cmp .ogt p q) (Ideal.cmp .une p p)) (IntOp.andi (Ideal.cmp .oeq p q) (IntOp.cmpi .slt i k)) = 1#1
      then i else k)) = if q < p ∨ (p = q ∧ i.toInt < k.toInt) then (p, i) else (q, k)
  have hone : ∀ w : BitVec 1, 1#1 ||| w = 1#1 := by decide
  by_cases h : q < p
  · simp [Ideal.cmp, IntOp.ori, IntOp.andi, h, hone]
  · by_cases he : p = q
    · subst he
      by_cases hi : i.toInt < k.toInt <;> simp [Ideal.cmp, IntOp.ori, IntOp.andi, IntOp.cmpi, BitVec.slt, hi]
    · simp [Ideal.cmp, IntOp.ori, IntOp.andi, h, he]

/-- So it keeps the better of its two operands. -/
theorem body_keeps (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  rw [body_eq]
  split
  · rename_i h
    exact ⟨.inl rfl, .refl a, h.imp id fun h => ⟨h.1.symm, h.2.le⟩⟩
  · rename_i h
    obtain ⟨h, h'⟩ := not_or.mp h
    refine ⟨.inr rfl, ?_, .refl b⟩
    rcases (not_lt.mp h).lt_or_eq with hlt | heq
    · exact .inl hlt
    · exact .inr ⟨heq, not_lt.mp fun hi => h' ⟨heq, hi⟩⟩

/-- A row's number, as a word, reads as the number. -/
theorem toInt_row (r : Fin 8192) : (BitVec.ofNat 32 r.val).toInt = (r.val : ℤ) := by
  rw [BitVec.toInt_ofNat', Int.bmod_eq_of_le] <;> omega

/-- Folded from below everything over all rows' pairs, in any order, it leaves the number of the row where the column first
    attains its largest value. -/
theorem fold_first {f : Fin 8192 → EReal} {V : EReal} {K : Fin 8192} (hf : FirstMax f V K) (L : List (EReal × BitVec 32))
    (hL : ∀ q, q ∈ L ↔ ∃ r : Fin 8192, (f r, BitVec.ofNat 32 r.val) = q)
    (p : EReal × BitVec 32) (hp : p = L.foldl (reducer_argmax_f32_i32 (F := Ideal)) ((⊥ : EReal), 0#32)) : p.2.toInt = (K.val : ℤ) := by
  obtain ⟨hin, -, hall⟩ := foldl_best _ body_keeps L ((⊥ : EReal), 0#32)
  have hK := hall _ ((hL _).mpr ⟨K, rfl⟩)
  rw [← hp] at hin hK
  rcases hin with rfl | hin
  · rcases hK with h | ⟨h, -⟩
    · exact absurd h not_lt_bot
    · have hV : V = ⊥ := hf.here.symm.trans h
      have h0 : K.val ≤ 0 := Fin.le_def.mp (hf.first ⟨0, by norm_num⟩ (le_antisymm (hf.le _) (hV ▸ bot_le)))
      rw [BitVec.toInt_zero]
      omega
  · obtain ⟨r, rfl⟩ := (hL _).mp hin
    rcases hK with h | ⟨h, hle⟩
    · exact absurd (hf.le r) (not_le.mpr (hf.here ▸ h))
    · have hfirst : K.val ≤ r.val := Fin.le_def.mp (hf.first r (h.symm.trans hf.here))
      simp only [toInt_row] at hle ⊢
      omega

/-! ## The two rows -/

variable (x : FVec Ideal S8192x512 .f32) {j : Fin 512} {V : EReal} {K : Fin 8192}

theorem reduces_rows : S8192x512.Reduces [0] S512 := by decide

/-- Every column's largest value. -/
theorem colMax_at (hx : FirstMax (fun r => x (ix2 r j)) V K) : colMax (F := Ideal) x (ix1 j) = V := by
  refine (Host.reduce_eq_fold_single _ x _ _ reduces_rows h_S_ (ix1 j)).trans ?_
  refine Eq.trans ?_ hx.fold_max
  have hi : (constant S_ .f32 0xFF800000#32 : FVec Ideal S_ .f32) (Shape.Idx.first h_S_) = (⊥ : EReal) := neg_inf
  rw [hi]
  exact congrArg (fun f => Finset.fold max ⊥ f Finset.univ) (funext fun r => congrArg x (down_eq reduces_rows j r))

/-- The pairs reduced in column `j` are its rows' values with the rows' numbers. -/
theorem mem_pairs (q : EReal × BitVec 32) :
    q ∈ Host.argReduceFiber x (iotaInDim S8192x512 32 0) reducesTo_S8192x512_S512_d0 (ix1 j)
      ↔ ∃ r : Fin 8192, (x (ix2 r j), BitVec.ofNat 32 r.val) = q := by
  unfold Host.argReduceFiber
  simp only [List.mem_map, List.mem_filter, List.mem_finRange, true_and, decide_eq_true_eq]
  rw [Shape.ReducesTo.drop_eq_drop reducesTo_S8192x512_S512_d0 reduces_rows]
  constructor
  · rintro ⟨n, hn, rfl⟩
    generalize S8192x512.rowMajor.symm n = i at hn ⊢
    have hi : ix2 (i 0) j = i :=
      (down_eq reduces_rows j (i 0)).symm.trans ((congrArg (fun y => reduces_rows.lift y (i 0)) hn.symm).trans (reduces_rows.lift_drop i))
    exact ⟨i 0, Prod.ext (congrArg x hi) rfl⟩
  · rintro ⟨r, rfl⟩
    refine ⟨S8192x512.rowMajor (ix2 r j), ?_, ?_⟩
    · rw [Equiv.symm_apply_apply]
      exact (congrArg reduces_rows.drop (down_eq reduces_rows j r).symm).trans (reduces_rows.drop_lift _ _)
    · rw [Equiv.symm_apply_apply]; rfl

/-- What the fold starts from. -/
theorem start_eq : ((constant S_ .f32 0xFF800000#32 : FVec Ideal S_ .f32) (Shape.Idx.first h_S_), constantI S_ 32 0#32 (Shape.Idx.first h_S_))
    = ((⊥ : EReal), 0#32) := Prod.ext neg_inf rfl

/-- A reduction of pairs is the left fold over the pairs. -/
theorem argReduce_fold {s t u : Shape} {axes : List (Fin s.rank)} (op : EReal × BitVec 32 → EReal × BitVec 32 → EReal × BitVec 32)
    (x : FVec Ideal s .f32) (y : IVec s 32) (ix : FVec Ideal u .f32) (iy : IVec u 32) (h : s.ReducesTo axes t) (hu : 0 < u.numel)
    (j : t.Idx) {p : EReal × BitVec 32} (hp : (ix (Shape.Idx.first hu), iy (Shape.Idx.first hu)) = p) :
    Host.argReduce (φ := .f32) op x y ix iy h hu j = (Host.argReduceFiber x y h j).foldl op p := by
  rw [← hp, Ideal.argReduce_eq_reduce2]
  exact Host.reduce2_eq_foldl_fiber op x y ix iy h hu j

/-- The places are the second parts of the reduced pairs. -/
theorem colArg_pairs : ∃ g : S512.Idx → Ideal .f32 × BitVec 32, colArg (F := Ideal) x = (fun j => (g j).2)
    ∧ g = Host.argReduce (reducer_argmax_f32_i32 (F := Ideal)) x (iotaInDim S8192x512 32 0) (constant S_ .f32 0xFF800000#32)
      (constantI S_ 32 0#32) reducesTo_S8192x512_S512_d0 h_S_ := ⟨_, rfl, rfl⟩

/-- The row where the column first attains it. -/
theorem colArg_at (hx : FirstMax (fun r => x (ix2 r j)) V K) : (colArg (F := Ideal) x (ix1 j)).toInt = (K.val : ℤ) := by
  obtain ⟨g, hg, hpairs⟩ := colArg_pairs x
  have hj := (congrFun hpairs (ix1 j)).trans (argReduce_fold _ x _ _ _ _ _ (ix1 j) start_eq)
  clear hpairs
  rw [hg]
  exact fold_first hx _ (mem_pairs x) _ hj

/-- A vector laid as one row. -/
theorem asRow_at (y : FVec Ideal S512 .f32) : broadcastInDim S1x512 ![1] bcast_S512_S1x512_1 y (ix2 0 j) = y (ix1 j) :=
  broadcastInDim_apply _ _ y _ (ix1 j) fun a => by fin_cases a; rfl

/-- So the reference's result: the column's largest value and its first row. -/
theorem ref_at (hx : FirstMax (fun r => x (ix2 r j)) V K) :
    refOut (F := Ideal) x (ix2 0 j) = V ∧ refOut (F := Ideal) x (ix2 1 j) = ((K.val : ℝ) : EReal) := by
  constructor
  · exact (concatenate_pair_apply_left 0 _ _ concatenates_S1x512_S1x512_S2x512_d0 (ix2 0 j) rfl (ix2 0 j)
      fun i => by fin_cases i <;> rfl).trans ((asRow_at _).trans (colMax_at x hx))
  · refine (concatenate_pair_apply_right 0 _ _ concatenates_S1x512_S1x512_S2x512_d0 (ix2 1 j) rfl rfl (ix2 0 j)
      (fun i hi => by fin_cases i <;> first | rfl | exact absurd rfl hi) rfl).trans ((asRow_at _).trans ?_)
    exact (congrArg (fun z : ℤ => ((z : ℝ) : EReal)) (colArg_at x hx)).trans (by push_cast; rfl)

end Cert.Columns

end
-- ==== Proof.Value.Equation.lean ====
/-
The equation: on every device the kernel's result, of the blocks of an array, is the reference's result of the array.
-/
module

public import proofs.«01_k».proof.Proof.Value.Merge
public import proofs.«01_k».proof.Proof.Value.Reference
public import Idealize.ShloMosaic.Lib.Layout

@[expose] public section

noncomputable section

namespace Cert.Columns

open Idealize.ShloMosaic Idealize.ShloMosaic.ValueIdx

variable (x : FVec Ideal ⟨2, ![8192, 512]⟩ .f32)

/-- Device `d`'s block holds the array's rows from `512 d` on. -/
theorem block_at (d : Fin 16) (r j : Fin 512) :
    (Layout.block ⟨2, ![512, 512]⟩ ⟨2, ![8192, 512]⟩ 0 16 d x) (ix2 r j) = x (ix2 (rowAt d r) j) := by
  rw [Layout.block_apply]
  refine congrArg x (funext fun a => Fin.ext ?_)
  match a with
  | ⟨0, _⟩ => rfl
  | ⟨1, _⟩ => rfl

/-- The results are equal, on every device. -/
theorem out_eq_ref (c : Fin 16) :
    Cert.KernelIdealProof.outOf (F := Ideal) (fun d => Layout.block ⟨2, ![512, 512]⟩ ⟨2, ![8192, 512]⟩ 0 16 d x) c
      = Cert.ReferenceProof.refOut (F := Ideal) x := by
  funext i
  obtain ⟨a, j, rfl⟩ : ∃ (a : Fin 2) (j : Fin 512), i = ix2 a j := ⟨i 0, i 1, eq_ix2 i⟩
  obtain ⟨V, K, h⟩ := exists_firstMax fun r : Fin 8192 => (x (ix2 r j) : EReal)
  have hout := out_at c h (X := fun d => Layout.block ⟨2, ![512, 512]⟩ ⟨2, ![8192, 512]⟩ 0 16 d x) fun d r => block_at x d r j
  have href := ref_at x h
  match a with
  | 0 => exact hout.1.trans href.1.symm
  | 1 => exact hout.2.trans href.2.symm

end Cert.Columns

end
-- ==== Proof.lean ====
/-
The certificate: the two kernel programs and the reference end with everything in place, the idealized program is the
kernel's own text, and on all sixteen devices its result is the reference's.
-/
module

public import proofs.«01_k».proof.Defs
public import proofs.«01_k».proof.Proof.Kernel.Run
public import proofs.«01_k».proof.Proof.KernelIdeal.Run
public import proofs.«01_k».proof.Proof.Reference.Run
public import proofs.«01_k».proof.Proof.Value.Equation
public import Idealize.ShloMosaic.Lib.StableHlo.Run

@[expose] public section

noncomputable section

namespace Cert.Proof

open Idealize.ShloMosaic Idealize.SL.Sem

/-- The kernel as printed ends, its argument as it was and its semaphores at zero; -/
theorem frame_P : Cert.quiescent_Kernel := fun m g _ =>
  (θ_run Cert.Kernel.defs _ _).mono (fun _ h => ⟨fun c => (h.1 c).2, h.2⟩) (Cert.KernelProof.run_out (F := Bits) m g)

/-- so does the idealized one; -/
theorem frame_PI : Cert.quiescent_KernelIdeal := fun m g _ =>
  (θ_run Cert.KernelIdeal.defs _ _).mono (fun _ h => ⟨fun c => (h.1 c).2, h.2⟩) (Cert.KernelIdealProof.run_out (F := Ideal) m g)

/-- and the reference, which has no semaphore. -/
theorem frame_RI : Cert.quiescent_ReferenceIdeal := fun m g _ =>
  (θ_run Cert.ReferenceIdeal.defs _ _).mono (fun r h => ⟨fun c => (h c).2, sem_eq_zero_of_no_sems (by decide) r.2⟩)
    (Cert.ReferenceProof.run_ref (F := Ideal) m g)

/-- On every device the idealized kernel leaves the reference's result, of the array whose blocks its devices hold. -/
theorem algebraic : Cert.algebraic_KernelIdeal_ReferenceIdeal := fun m g m' g' _ hm =>
  ⟨_, (θ_run Cert.KernelIdeal.defs _ _).mono (fun _ h c => ⟨(h.1 c).1.trans
      ((congrArg (fun X => Cert.KernelIdealProof.outOf (F := Ideal) X c) (funext hm)).trans (Cert.Columns.out_eq_ref _ c)), (h.1 c).2⟩)
      (Cert.KernelIdealProof.run_out (F := Ideal) m g),
    (θ_run Cert.ReferenceIdeal.defs _ _).mono (fun _ h => h 0) (Cert.ReferenceProof.run_ref (F := Ideal) m' g')⟩

/-- All five claims. -/
theorem claim : Cert.Claim :=
  ⟨Cert.Kernel.Gen.facts, Cert.KernelIdeal.Gen.facts, Cert.ReferenceIdeal.Gen.facts, frame_P, frame_PI, frame_RI, trivial, algebraic⟩

end Cert.Proof

end
